-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_fitness [hPre_finite_fitness : Cert.Pre_finite_fitness.Facts] (m : (ℓ : Loc Cert.KernelIdeal.nD Cert.KernelIdeal.τ Cert.KernelIdeal.sig) → Buf (Elt Ideal) ℓ) : Prop :=
  ∀ c : Dev Cert.KernelIdeal.nD,
    (Cert.Pre_finite_fitness.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_fitness [hPre_finite_fitness : Cert.Pre_finite_fitness.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_fitness.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_fitness [hKernelIdeal : Cert.KernelIdeal.Facts] [hPre_finite_fitness : Cert.Pre_finite_fitness.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_fitness m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_fitness [hReferenceIdeal : Cert.ReferenceIdeal.Facts] [hPre_finite_fitness : Cert.Pre_finite_fitness.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_fitness m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "c1" .f32 0x3DCCCCCD#32 ((1 / 10 : ℝ) : EReal)
  ∧ IdealRules.named_const.Statement Cert.KernelIdeal.κ "c2" .f32 0x3E4CCCCD#32 ((1 / 5 : ℝ) : EReal)
  ∧ IdealRules.named_const.Statement Cert.KernelIdeal.κ "c3" .f32 0x3E99999A#32 ((3 / 10 : ℝ) : EReal)
  ∧ IdealRules.named_const.Statement Cert.KernelIdeal.κ "c4" .f32 0x3ECCCCCD#32 ((2 / 5 : ℝ) : EReal)
  ∧ IdealRules.named_const.Statement Cert.KernelIdeal.κ "c6" .f32 0x3F19999A#32 ((3 / 5 : ℝ) : EReal)
  ∧ IdealRules.named_const.Statement Cert.KernelIdeal.κ "c7" .f32 0x3F333333#32 ((7 / 10 : ℝ) : EReal)
  ∧ IdealRules.named_const.Statement Cert.KernelIdeal.κ "c8" .f32 0x3F4CCCCD#32 ((4 / 5 : ℝ) : EReal)
  ∧ IdealRules.named_const.Statement Cert.KernelIdeal.κ "c9" .f32 0x3F666666#32 ((9 / 10 : ℝ) : EReal)
  ∧ IdealRules.named_const.Statement Cert.KernelIdeal.κ "c11" .f32 0x3F8CCCCD#32 ((11 / 10 : ℝ) : EReal)
  ∧ IdealRules.named_const.Statement Cert.KernelIdeal.κ "c12" .f32 0x3F99999A#32 ((6 / 5 : ℝ) : EReal)
  ∧ IdealRules.named_const.Statement Cert.KernelIdeal.κ "c13" .f32 0x3FA66666#32 ((13 / 10 : ℝ) : EReal)
  ∧ IdealRules.named_const.Statement Cert.KernelIdeal.κ "c14" .f32 0x3FB33333#32 ((7 / 5 : ℝ) : EReal)
  ∧ IdealRules.named_const.Statement Cert.KernelIdeal.κ "mask" .f32 0xFF61B1E6#32 ⊥

def algebraic_KernelIdeal_ReferenceIdeal_pre_finite_fitness [hKernelIdeal : Cert.KernelIdeal.Facts] [hReferenceIdeal : Cert.ReferenceIdeal.Facts] [hPre_finite_fitness : Cert.Pre_finite_fitness.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_fitness m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_fitness : Cert.Pre_finite_fitness.Facts),
    quiescent_Kernel (hKernel := hKernel)
    ∧ quiescent_KernelIdeal (hKernelIdeal := hKernelIdeal)
    ∧ quiescent_KernelIdeal_pre_finite_fitness (hKernelIdeal := hKernelIdeal) (hPre_finite_fitness := hPre_finite_fitness)
    ∧ quiescent_ReferenceIdeal (hReferenceIdeal := hReferenceIdeal)
    ∧ quiescent_ReferenceIdeal_pre_finite_fitness (hReferenceIdeal := hReferenceIdeal) (hPre_finite_fitness := hPre_finite_fitness)
    ∧ preserves_Kernel_KernelIdeal
    ∧ algebraic_KernelIdeal_ReferenceIdeal_pre_finite_fitness (hKernelIdeal := hKernelIdeal) (hReferenceIdeal := hReferenceIdeal) (hPre_finite_fitness := hPre_finite_fitness)
-- ==== Pre_finite_fitness.lean ====
abbrev S64x1024 : Shape := ⟨2, ![64, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S_ : Shape := ⟨0, ![]⟩

class Facts : Prop where
  bcast_S_S1024x1 : S_.BroadcastsInDim S1024x1 (![] : Fin 0 → Fin S1024x1.rank)
  reducesTo_S1024x1_S_d0_1 : S1024x1.ReducesTo [0, 1] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S64x1024 .f32) (main_arg1 : FVec F S1024x1024 .f32) (main_arg2 : FVec F S1024 .f32) (main_arg3 : FVec F S1024x1 .f32) (main_arg4 : FVec F S1 .f32) : IVec S_ 1 :=
  let main_v0 : FVec F S1024x1 .f32 := Host.absf main_arg3
  let main_cst : FVec F S_ .f32 := constant S_ .f32 0x7F800000#32
  let main_v1 : FVec F S1024x1 .f32 := broadcastInDim S1024x1 ![] bcast_S_S1024x1 main_cst
  let main_v2 : IVec S1024x1 1 := cmpf .olt main_v0 main_v1
  let main_c : IVec S_ 1 := constantI S_ 1 1#1
  let main_v3 : IVec S_ 1 := (fun x v => Host.reduce IntOp.andi x v reducesTo_S1024x1_S_d0_1 h_S_) main_v2 main_c
  let main_v4 : FVec F S1 .f32 := Host.absf main_arg4
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  main_v8
-- ==== Kernel.lean ====
abbrev S64x1024 : Shape := ⟨2, ![64, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1024 : Shape := ⟨2, ![1, 1024]⟩
abbrev S1x1 : Shape := ⟨2, ![1, 1]⟩
abbrev S64x16 : Shape := ⟨2, ![64, 16]⟩
abbrev S64x128 : Shape := ⟨2, ![64, 128]⟩
abbrev S64x1 : Shape := ⟨2, ![64, 1]⟩
abbrev S64 : Shape := ⟨1, ![64]⟩
abbrev S512x1024 : Shape := ⟨2, ![512, 1024]⟩
abbrev S512x1 : Shape := ⟨2, ![512, 1]⟩
abbrev S64x8 : Shape := ⟨2, ![64, 8]⟩

abbrev nBuf : Space → Nat
  | .hbm => 8
  | .vmem => 5
  | .smem => 1
  | _ => 0

abbrev bufTy : (tb : Table) → Fin (tcTables nBuf tb) → BufTy
  | .hbm, ⟨0, _⟩ => ⟨S64x1024, .f32⟩
  | .hbm, ⟨1, _⟩ => ⟨S1024x1024, .f32⟩
  | .hbm, ⟨2, _⟩ => ⟨S1024, .f32⟩
  | .hbm, ⟨3, _⟩ => ⟨S1024x1, .f32⟩
  | .hbm, ⟨4, _⟩ => ⟨S1, .f32⟩
  | .hbm, ⟨5, _⟩ => ⟨S1x1024, .f32⟩
  | .hbm, ⟨6, _⟩ => ⟨S1x1, .f32⟩
  | .hbm, ⟨7, _⟩ => ⟨S64x1024, .f32⟩
  | .local _ .vmem, ⟨0, _⟩ => ⟨S64x1024, .f32⟩
  | .local _ .vmem, ⟨1, _⟩ => ⟨S1024x1024, .f32⟩
  | .local _ .vmem, ⟨2, _⟩ => ⟨S1x1024, .f32⟩
  | .local _ .vmem, ⟨3, _⟩ => ⟨S1024x1, .f32⟩
  | .local _ .vmem, ⟨4, _⟩ => ⟨S64x1024, .f32⟩
  | .local _ .smem, ⟨0, _⟩ => ⟨S1x1, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg5_0 : Ref sig .tc := ⟨.vmem, 4, rfl⟩
abbrev cc0_stg4_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "c1" => some ((1 / 10 : ℝ) : EReal)
  | "c11" => some ((11 / 10 : ℝ) : EReal)
  | "c12" => some ((6 / 5 : ℝ) : EReal)
  | "c13" => some ((13 / 10 : ℝ) : EReal)
  | "c14" => some ((7 / 5 : ℝ) : EReal)
  | "c2" => some ((1 / 5 : ℝ) : EReal)
  | "c3" => some ((3 / 10 : ℝ) : EReal)
  | "c4" => some ((2 / 5 : ℝ) : EReal)
  | "c6" => some ((3 / 5 : ℝ) : EReal)
  | "c7" => some ((7 / 10 : ℝ) : EReal)
  | "c8" => some ((4 / 5 : ℝ) : EReal)
  | "c9" => some ((9 / 10 : ℝ) : EReal)
  | "mask" => some ⊥
  | _ => none
-- ==== ReferenceIdeal.lean ====
abbrev S64x1024 : Shape := ⟨2, ![64, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x64x1024 : Shape := ⟨3, ![1, 64, 1024]⟩
abbrev S1x1x1024 : Shape := ⟨3, ![1, 1, 1024]⟩
abbrev S16 : Shape := ⟨1, ![16]⟩
abbrev S16x1x1x1 : Shape := ⟨4, ![16, 1, 1, 1]⟩
abbrev S_ : Shape := ⟨0, ![]⟩
abbrev S1x1x64x1024 : Shape := ⟨4, ![1, 1, 64, 1024]⟩
abbrev S16x1x64x1024 : Shape := ⟨4, ![16, 1, 64, 1024]⟩
abbrev S16x64x1024 : Shape := ⟨3, ![16, 64, 1024]⟩
abbrev S16x64x1 : Shape := ⟨3, ![16, 64, 1]⟩
abbrev S1x1x1 : Shape := ⟨3, ![1, 1, 1]⟩
abbrev S16x64 : Shape := ⟨2, ![16, 64]⟩
abbrev S64x16 : Shape := ⟨2, ![64, 16]⟩
abbrev S64x8 : Shape := ⟨2, ![64, 8]⟩
abbrev S8x64 : Shape := ⟨2, ![8, 64]⟩
abbrev S8x64x1 : Shape := ⟨3, ![8, 64, 1]⟩
abbrev S8x64x1024 : Shape := ⟨3, ![8, 64, 1024]⟩
abbrev S8x64x1024x1 : Shape := ⟨4, ![8, 64, 1024, 1]⟩
abbrev S1x1x1x1 : Shape := ⟨4, ![1, 1, 1, 1]⟩
abbrev S1x8x64x1024 : Shape := ⟨4, ![1, 8, 64, 1024]⟩
abbrev S16x8x64x1024 : Shape := ⟨4, ![16, 8, 64, 1024]⟩
abbrev S128x64x1024 : Shape := ⟨3, ![128, 64, 1024]⟩
abbrev S128x64x1 : Shape := ⟨3, ![128, 64, 1]⟩
abbrev S128x64 : Shape := ⟨2, ![128, 64]⟩
abbrev S64x128 : Shape := ⟨2, ![64, 128]⟩
abbrev S64x1 : Shape := ⟨2, ![64, 1]⟩
abbrev S1x64x1 : Shape := ⟨3, ![1, 64, 1]⟩

abbrev nBuf : Space → Nat
  | .hbm => 232
  | .vmem => 0
  | .smem => 0
  | _ => 0

abbrev hbmTy0_0 (i : Nat) : BufTy := match i % 128 with
  | 0 => ⟨S64x1024, .f32⟩
  | 1 => ⟨S1024x1024, .f32⟩
  | 2 => ⟨S1024, .f32⟩
  | 3 => ⟨S1024x1, .f32⟩
  | 4 => ⟨S1, .f32⟩
  | 5 => ⟨S1x64x1024, .f32⟩
  | 6 => ⟨S1x64x1024, .f32⟩
  | 7 => ⟨S1x1x1024, .f32⟩
  | 8 => ⟨S1x64x1024, .f32⟩
  | 9 => ⟨S1x64x1024, .f32⟩
  | 10 => ⟨S16, .f32⟩
  | 11 => ⟨S16x1x1x1, .f32⟩
  | 12 => ⟨S_, .f32⟩
  | 13 => ⟨S16x1x1x1, .f32⟩
  | 14 => ⟨S16x1x1x1, .f32⟩
  | 15 => ⟨S1x64x1024, .f32⟩
  | 16 => ⟨S1x1x64x1024, .f32⟩
  | 17 => ⟨S16x1x64x1024, .f32⟩
  | 18 => ⟨S16x1x64x1024, .f32⟩
  | 19 => ⟨S16x1x64x1024, .f32⟩
  | 20 => ⟨S16x64x1024, .f32⟩
  | 21 => ⟨S16x64x1, .f32⟩
  | 22 => ⟨S1x1x1, .f32⟩
  | 23 => ⟨S16x64x1, .f32⟩
  | 24 => ⟨S16x64x1, .f32⟩
  | 25 => ⟨S16x64, .f32⟩
  | 26 => ⟨S_, .f32⟩
  | 27 => ⟨S16x64, .f32⟩
  | 28 => ⟨S16x64, .f32⟩
  | 29 => ⟨S64x16, .f32⟩
  | 30 => ⟨S64x8, .f32⟩
  | 31 => ⟨S64x8, .i32⟩
  | 32 => ⟨S8x64, .i32⟩
  | 33 => ⟨S8x64x1, .i32⟩
  | 34 => ⟨S8x64x1024, .i32⟩
  | 35 => ⟨S_, .i32⟩
  | 36 => ⟨S8x64x1024, .i32⟩
  | 37 => ⟨S8x64x1024, .i1⟩
  | 38 => ⟨S_, .i32⟩
  | 39 => ⟨S8x64x1024, .i32⟩
  | 40 => ⟨S8x64x1024, .i32⟩
  | 41 => ⟨S8x64x1024, .i32⟩
  | 42 => ⟨S8x64x1024x1, .i32⟩
  | 43 => ⟨S1, .i32⟩
  | 44 => ⟨S_, .i32⟩
  | 45 => ⟨S8x64x1024x1, .i32⟩
  | 46 => ⟨S8x64x1024x1, .i1⟩
  | 47 => ⟨S1x1x1x1, .i32⟩
  | 48 => ⟨S8x64x1024x1, .i32⟩
  | 49 => ⟨S8x64x1024x1, .i1⟩
  | 50 => ⟨S8x64x1024x1, .i1⟩
  | 51 => ⟨S_, .i1⟩
  | 52 => ⟨S8x64x1024, .i1⟩
  | 53 => ⟨S8x64x1024, .f32⟩
  | 54 => ⟨S_, .f32⟩
  | 55 => ⟨S8x64x1024, .f32⟩
  | 56 => ⟨S8x64x1024, .f32⟩
  | 57 => ⟨S8x64x1024, .f32⟩
  | 58 => ⟨S1x1x1024, .f32⟩
  | 59 => ⟨S8x64x1024, .f32⟩
  | 60 => ⟨S8x64x1024, .f32⟩
  | 61 => ⟨S16, .f32⟩
  | 62 => ⟨S16x1x1x1, .f32⟩
  | 63 => ⟨S_, .f32⟩
  | 64 => ⟨S16x1x1x1, .f32⟩
  | 65 => ⟨S16x1x1x1, .f32⟩
  | 66 => ⟨S8x64x1024, .f32⟩
  | 67 => ⟨S1x8x64x1024, .f32⟩
  | 68 => ⟨S16x8x64x1024, .f32⟩
  | 69 => ⟨S16x8x64x1024, .f32⟩
  | 70 => ⟨S16x8x64x1024, .f32⟩
  | 71 => ⟨S128x64x1024, .f32⟩
  | 72 => ⟨S128x64x1, .f32⟩
  | 73 => ⟨S1x1x1, .f32⟩
  | 74 => ⟨S128x64x1, .f32⟩
  | 75 => ⟨S128x64x1, .f32⟩
  | 76 => ⟨S128x64, .f32⟩
  | 77 => ⟨S_, .f32⟩
  | 78 => ⟨S128x64, .f32⟩
  | 79 => ⟨S128x64, .f32⟩
  | 80 => ⟨S64x128, .f32⟩
  | 81 => ⟨S64x8, .f32⟩
  | 82 => ⟨S64x8, .i32⟩
  | 83 => ⟨S8x64, .i32⟩
  | 84 => ⟨S8x64x1, .i32⟩
  | 85 => ⟨S8x64x1024, .i32⟩
  | 86 => ⟨S_, .i32⟩
  | 87 => ⟨S8x64x1024, .i32⟩
  | 88 => ⟨S8x64x1024, .i1⟩
  | 89 => ⟨S_, .i32⟩
  | 90 => ⟨S8x64x1024, .i32⟩
  | 91 => ⟨S8x64x1024, .i32⟩
  | 92 => ⟨S8x64x1024, .i32⟩
  | 93 => ⟨S8x64x1024x1, .i32⟩
  | 94 => ⟨S1, .i32⟩
  | 95 => ⟨S_, .i32⟩
  | 96 => ⟨S8x64x1024x1, .i32⟩
  | 97 => ⟨S8x64x1024x1, .i1⟩
  | 98 => ⟨S1x1x1x1, .i32⟩
  | 99 => ⟨S8x64x1024x1, .i32⟩
  | 100 => ⟨S8x64x1024x1, .i1⟩
  | 101 => ⟨S8x64x1024x1, .i1⟩
  | 102 => ⟨S_, .i1⟩
  | 103 => ⟨S8x64x1024, .i1⟩
  | 104 => ⟨S8x64x1024, .f32⟩
  | 105 => ⟨S_, .f32⟩
  | 106 => ⟨S8x64x1024, .f32⟩
  | 107 => ⟨S8x64x1024, .f32⟩
  | 108 => ⟨S8x64x1024, .f32⟩
  | 109 => ⟨S1x1x1024, .f32⟩
  | 110 => ⟨S8x64x1024, .f32⟩
  | 111 => ⟨S8x64x1024, .f32⟩
  | 112 => ⟨S16, .f32⟩
  | 113 => ⟨S16x1x1x1, .f32⟩
  | 114 => ⟨S_, .f32⟩
  | 115 => ⟨S16x1x1x1, .f32⟩
  | 116 => ⟨S16x1x1x1, .f32⟩
  | 117 => ⟨S8x64x1024, .f32⟩
  | 118 => ⟨S1x8x64x1024, .f32⟩
  | 119 => ⟨S16x8x64x1024, .f32⟩
  | 120 => ⟨S16x8x64x1024, .f32⟩
  | 121 => ⟨S16x8x64x1024, .f32⟩
  | 122 => ⟨S128x64x1024, .f32⟩
  | 123 => ⟨S128x64x1, .f32⟩
  | 124 => ⟨S1x1x1, .f32⟩
  | 125 => ⟨S128x64x1, .f32⟩
  | 126 => ⟨S128x64x1, .f32⟩
  | 127 => ⟨S128x64, .f32⟩
  | _ => ⟨S64x1024, .f32⟩

abbrev hbmTy0_1 (i : Nat) : BufTy := match i % 128 with
  | 0 => ⟨S_, .f32⟩
  | 1 => ⟨S128x64, .f32⟩
  | 2 => ⟨S128x64, .f32⟩
  | 3 => ⟨S64x128, .f32⟩
  | 4 => ⟨S64x8, .f32⟩
  | 5 => ⟨S64x8, .i32⟩
  | 6 => ⟨S8x64, .i32⟩
  | 7 => ⟨S8x64x1, .i32⟩
  | 8 => ⟨S8x64x1024, .i32⟩
  | 9 => ⟨S_, .i32⟩
  | 10 => ⟨S8x64x1024, .i32⟩
  | 11 => ⟨S8x64x1024, .i1⟩
  | 12 => ⟨S_, .i32⟩
  | 13 => ⟨S8x64x1024, .i32⟩
  | 14 => ⟨S8x64x1024, .i32⟩
  | 15 => ⟨S8x64x1024, .i32⟩
  | 16 => ⟨S8x64x1024x1, .i32⟩
  | 17 => ⟨S1, .i32⟩
  | 18 => ⟨S_, .i32⟩
  | 19 => ⟨S8x64x1024x1, .i32⟩
  | 20 => ⟨S8x64x1024x1, .i1⟩
  | 21 => ⟨S1x1x1x1, .i32⟩
  | 22 => ⟨S8x64x1024x1, .i32⟩
  | 23 => ⟨S8x64x1024x1, .i1⟩
  | 24 => ⟨S8x64x1024x1, .i1⟩
  | 25 => ⟨S_, .i1⟩
  | 26 => ⟨S8x64x1024, .i1⟩
  | 27 => ⟨S8x64x1024, .f32⟩
  | 28 => ⟨S_, .f32⟩
  | 29 => ⟨S8x64x1024, .f32⟩
  | 30 => ⟨S8x64x1024, .f32⟩
  | 31 => ⟨S8x64x1024, .f32⟩
  | 32 => ⟨S1x1x1024, .f32⟩
  | 33 => ⟨S8x64x1024, .f32⟩
  | 34 => ⟨S8x64x1024, .f32⟩
  | 35 => ⟨S16, .f32⟩
  | 36 => ⟨S16x1x1x1, .f32⟩
  | 37 => ⟨S_, .f32⟩
  | 38 => ⟨S16x1x1x1, .f32⟩
  | 39 => ⟨S16x1x1x1, .f32⟩
  | 40 => ⟨S8x64x1024, .f32⟩
  | 41 => ⟨S1x8x64x1024, .f32⟩
  | 42 => ⟨S16x8x64x1024, .f32⟩
  | 43 => ⟨S16x8x64x1024, .f32⟩
  | 44 => ⟨S16x8x64x1024, .f32⟩
  | 45 => ⟨S128x64x1024, .f32⟩
  | 46 => ⟨S128x64x1, .f32⟩
  | 47 => ⟨S1x1x1, .f32⟩
  | 48 => ⟨S128x64x1, .f32⟩
  | 49 => ⟨S128x64x1, .f32⟩
  | 50 => ⟨S128x64, .f32⟩
  | 51 => ⟨S_, .f32⟩
  | 52 => ⟨S128x64, .f32⟩
  | 53 => ⟨S128x64, .f32⟩
  | 54 => ⟨S64x128, .f32⟩
  | 55 => ⟨S64x8, .f32⟩
  | 56 => ⟨S64x8, .i32⟩
  | 57 => ⟨S8x64, .i32⟩
  | 58 => ⟨S8x64x1, .i32⟩
  | 59 => ⟨S8x64x1024, .i32⟩
  | 60 => ⟨S_, .i32⟩
  | 61 => ⟨S8x64x1024, .i32⟩
  | 62 => ⟨S8x64x1024, .i1⟩
  | 63 => ⟨S_, .i32⟩
  | 64 => ⟨S8x64x1024, .i32⟩
  | 65 => ⟨S8x64x1024, .i32⟩
  | 66 => ⟨S8x64x1024, .i32⟩
  | 67 => ⟨S8x64x1024x1, .i32⟩
  | 68 => ⟨S1, .i32⟩
  | 69 => ⟨S_, .i32⟩
  | 70 => ⟨S8x64x1024x1, .i32⟩
  | 71 => ⟨S8x64x1024x1, .i1⟩
  | 72 => ⟨S1x1x1x1, .i32⟩
  | 73 => ⟨S8x64x1024x1, .i32⟩
  | 74 => ⟨S8x64x1024x1, .i1⟩
  | 75 => ⟨S8x64x1024x1, .i1⟩
  | 76 => ⟨S_, .i1⟩
  | 77 => ⟨S8x64x1024, .i1⟩
  | 78 => ⟨S8x64x1024, .f32⟩
  | 79 => ⟨S_, .f32⟩
  | 80 => ⟨S8x64x1024, .f32⟩
  | 81 => ⟨S8x64x1024, .f32⟩
  | 82 => ⟨S8x64x1, .f32⟩
  | 83 => ⟨S1x1x1, .f32⟩
  | 84 => ⟨S8x64x1, .f32⟩
  | 85 => ⟨S8x64x1, .f32⟩
  | 86 => ⟨S_, .f32⟩
  | 87 => ⟨S64x1, .f32⟩
  | 88 => ⟨S_, .f32⟩
  | 89 => ⟨S64x1, .f32⟩
  | 90 => ⟨S64x1, .f32⟩
  | 91 => ⟨S1x64x1, .f32⟩
  | 92 => ⟨S8x64x1, .f32⟩
  | 93 => ⟨S8x64x1, .f32⟩
  | 94 => ⟨S8x64x1, .f32⟩
  | 95 => ⟨S_, .f32⟩
  | 96 => ⟨S64x1, .f32⟩
  | 97 => ⟨S1x64x1, .f32⟩
  | 98 => ⟨S8x64x1, .f32⟩
  | 99 => ⟨S8x64x1, .f32⟩
  | 100 => ⟨S8x64x1024, .f32⟩
  | 101 => ⟨S8x64x1024, .f32⟩
  | 102 => ⟨S_, .f32⟩
  | 103 => ⟨S64x1024, .f32⟩
  | _ => ⟨S64x1024, .f32⟩

abbrev hbmTy (i : Nat) : BufTy := match i / 128 with
  | 0 => hbmTy0_0 i
  | 1 => hbmTy0_1 i
  | _ => ⟨S64x1024, .f32⟩

abbrev bufTy : (tb : Table) → Fin (tcTables nBuf tb) → BufTy
  | .hbm, ⟨i, _⟩ => hbmTy i
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_values : Ref sig .tc := ⟨.hbm, 30, rfl⟩
abbrev main_indices : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_call0_c : Ref sig .tc := ⟨.hbm, 35, rfl⟩
abbrev main_call0_v0 : Ref sig .tc := ⟨.hbm, 36, rfl⟩
abbrev main_call0_v1 : Ref sig .tc := ⟨.hbm, 37, rfl⟩
abbrev main_call0_c_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_c_1 : Ref sig .tc := ⟨.hbm, 43, rfl⟩
abbrev main_call0_c_2 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_c_3 : Ref sig .tc := ⟨.hbm, 51, rfl⟩
abbrev main_call0_v12 : Ref sig .tc := ⟨.hbm, 52, rfl⟩
abbrev main_call0_v13 : Ref sig .tc := ⟨.hbm, 53, rfl⟩
abbrev main_call0_cst : Ref sig .tc := ⟨.hbm, 54, rfl⟩
abbrev main_call0_v14 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_1 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_2 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_values_3 : Ref sig .tc := ⟨.hbm, 81, rfl⟩
abbrev main_indices_4 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_call1_c : Ref sig .tc := ⟨.hbm, 86, rfl⟩
abbrev main_call1_v0 : Ref sig .tc := ⟨.hbm, 87, rfl⟩
abbrev main_call1_v1 : Ref sig .tc := ⟨.hbm, 88, rfl⟩
abbrev main_call1_c_0 : Ref sig .tc := ⟨.hbm, 89, rfl⟩
abbrev main_call1_v2 : Ref sig .tc := ⟨.hbm, 90, rfl⟩
abbrev main_call1_v3 : Ref sig .tc := ⟨.hbm, 91, rfl⟩
abbrev main_call1_v4 : Ref sig .tc := ⟨.hbm, 92, rfl⟩
abbrev main_call1_v5 : Ref sig .tc := ⟨.hbm, 93, rfl⟩
abbrev main_call1_c_1 : Ref sig .tc := ⟨.hbm, 94, rfl⟩
abbrev main_call1_c_2 : Ref sig .tc := ⟨.hbm, 95, rfl⟩
abbrev main_call1_v6 : Ref sig .tc := ⟨.hbm, 96, rfl⟩
abbrev main_call1_v7 : Ref sig .tc := ⟨.hbm, 97, rfl⟩
abbrev main_call1_v8 : Ref sig .tc := ⟨.hbm, 98, rfl⟩
abbrev main_call1_v9 : Ref sig .tc := ⟨.hbm, 99, rfl⟩
abbrev main_call1_v10 : Ref sig .tc := ⟨.hbm, 100, rfl⟩
abbrev main_call1_v11 : Ref sig .tc := ⟨.hbm, 101, rfl⟩
abbrev main_call1_c_3 : Ref sig .tc := ⟨.hbm, 102, rfl⟩
abbrev main_call1_v12 : Ref sig .tc := ⟨.hbm, 103, rfl⟩
abbrev main_call1_v13 : Ref sig .tc := ⟨.hbm, 104, rfl⟩
abbrev main_call1_cst : Ref sig .tc := ⟨.hbm, 105, rfl⟩
abbrev main_call1_v14 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_cst_5 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_cst_6 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_values_7 : Ref sig .tc := ⟨.hbm, 132, rfl⟩
abbrev main_indices_8 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_call2_c : Ref sig .tc := ⟨.hbm, 137, rfl⟩
abbrev main_call2_v0 : Ref sig .tc := ⟨.hbm, 138, rfl⟩
abbrev main_call2_v1 : Ref sig .tc := ⟨.hbm, 139, rfl⟩
abbrev main_call2_c_0 : Ref sig .tc := ⟨.hbm, 140, rfl⟩
abbrev main_call2_v2 : Ref sig .tc := ⟨.hbm, 141, rfl⟩
abbrev main_call2_v3 : Ref sig .tc := ⟨.hbm, 142, rfl⟩
abbrev main_call2_v4 : Ref sig .tc := ⟨.hbm, 143, rfl⟩
abbrev main_call2_v5 : Ref sig .tc := ⟨.hbm, 144, rfl⟩
abbrev main_call2_c_1 : Ref sig .tc := ⟨.hbm, 145, rfl⟩
abbrev main_call2_c_2 : Ref sig .tc := ⟨.hbm, 146, rfl⟩
abbrev main_call2_v6 : Ref sig .tc := ⟨.hbm, 147, rfl⟩
abbrev main_call2_v7 : Ref sig .tc := ⟨.hbm, 148, rfl⟩
abbrev main_call2_v8 : Ref sig .tc := ⟨.hbm, 149, rfl⟩
abbrev main_call2_v9 : Ref sig .tc := ⟨.hbm, 150, rfl⟩
abbrev main_call2_v10 : Ref sig .tc := ⟨.hbm, 151, rfl⟩
abbrev main_call2_v11 : Ref sig .tc := ⟨.hbm, 152, rfl⟩
abbrev main_call2_c_3 : Ref sig .tc := ⟨.hbm, 153, rfl⟩
abbrev main_call2_v12 : Ref sig .tc := ⟨.hbm, 154, rfl⟩
abbrev main_call2_v13 : Ref sig .tc := ⟨.hbm, 155, rfl⟩
abbrev main_call2_cst : Ref sig .tc := ⟨.hbm, 156, rfl⟩
abbrev main_call2_v14 : Ref sig .tc := ⟨.hbm, 157, rfl⟩
abbrev main_v78 : Ref sig .tc := ⟨.hbm, 158, rfl⟩
abbrev main_v79 : Ref sig .tc := ⟨.hbm, 159, rfl⟩
abbrev main_v80 : Ref sig .tc := ⟨.hbm, 160, rfl⟩
abbrev main_v81 : Ref sig .tc := ⟨.hbm, 161, rfl⟩
abbrev main_v82 : Ref sig .tc := ⟨.hbm, 162, rfl⟩
abbrev main_v83 : Ref sig .tc := ⟨.hbm, 163, rfl⟩
abbrev main_v84 : Ref sig .tc := ⟨.hbm, 164, rfl⟩
abbrev main_cst_9 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_v88 : Ref sig .tc := ⟨.hbm, 169, rfl⟩
abbrev main_v89 : Ref sig .tc := ⟨.hbm, 170, rfl⟩
abbrev main_v90 : Ref sig .tc := ⟨.hbm, 171, rfl⟩
abbrev main_v91 : Ref sig .tc := ⟨.hbm, 172, rfl⟩
abbrev main_v92 : Ref sig .tc := ⟨.hbm, 173, rfl⟩
abbrev main_v93 : Ref sig .tc := ⟨.hbm, 174, rfl⟩
abbrev main_v94 : Ref sig .tc := ⟨.hbm, 175, rfl⟩
abbrev main_v95 : Ref sig .tc := ⟨.hbm, 176, rfl⟩
abbrev main_v96 : Ref sig .tc := ⟨.hbm, 177, rfl⟩
abbrev main_v97 : Ref sig .tc := ⟨.hbm, 178, rfl⟩
abbrev main_cst_10 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_values_11 : Ref sig .tc := ⟨.hbm, 183, rfl⟩
abbrev main_indices_12 : Ref sig .tc := ⟨.hbm, 184, rfl⟩
abbrev main_v101 : Ref sig .tc := ⟨.hbm, 185, rfl⟩
abbrev main_v102 : Ref sig .tc := ⟨.hbm, 186, rfl⟩
abbrev main_v103 : Ref sig .tc := ⟨.hbm, 187, rfl⟩
abbrev main_call3_c : Ref sig .tc := ⟨.hbm, 188, rfl⟩
abbrev main_call3_v0 : Ref sig .tc := ⟨.hbm, 189, rfl⟩
abbrev main_call3_v1 : Ref sig .tc := ⟨.hbm, 190, rfl⟩
abbrev main_call3_c_0 : Ref sig .tc := ⟨.hbm, 191, rfl⟩
abbrev main_call3_v2 : Ref sig .tc := ⟨.hbm, 192, rfl⟩
abbrev main_call3_v3 : Ref sig .tc := ⟨.hbm, 193, rfl⟩
abbrev main_call3_v4 : Ref sig .tc := ⟨.hbm, 194, rfl⟩
abbrev main_call3_v5 : Ref sig .tc := ⟨.hbm, 195, rfl⟩
abbrev main_call3_c_1 : Ref sig .tc := ⟨.hbm, 196, rfl⟩
abbrev main_call3_c_2 : Ref sig .tc := ⟨.hbm, 197, rfl⟩
abbrev main_call3_v6 : Ref sig .tc := ⟨.hbm, 198, rfl⟩
abbrev main_call3_v7 : Ref sig .tc := ⟨.hbm, 199, rfl⟩
abbrev main_call3_v8 : Ref sig .tc := ⟨.hbm, 200, rfl⟩
abbrev main_call3_v9 : Ref sig .tc := ⟨.hbm, 201, rfl⟩
abbrev main_call3_v10 : Ref sig .tc := ⟨.hbm, 202, rfl⟩
abbrev main_call3_v11 : Ref sig .tc := ⟨.hbm, 203, rfl⟩
abbrev main_call3_c_3 : Ref sig .tc := ⟨.hbm, 204, rfl⟩
abbrev main_call3_v12 : Ref sig .tc := ⟨.hbm, 205, rfl⟩
abbrev main_call3_v13 : Ref sig .tc := ⟨.hbm, 206, rfl⟩
abbrev main_call3_cst : Ref sig .tc := ⟨.hbm, 207, rfl⟩
abbrev main_call3_v14 : Ref sig .tc := ⟨.hbm, 208, rfl⟩
abbrev main_v104 : Ref sig .tc := ⟨.hbm, 209, rfl⟩
abbrev main_v105 : Ref sig .tc := ⟨.hbm, 210, rfl⟩
abbrev main_v106 : Ref sig .tc := ⟨.hbm, 211, rfl⟩
abbrev main_v107 : Ref sig .tc := ⟨.hbm, 212, rfl⟩
abbrev main_v108 : Ref sig .tc := ⟨.hbm, 213, rfl⟩
abbrev main_cst_13 : Ref sig .tc := ⟨.hbm, 214, rfl⟩
abbrev main_v109 : Ref sig .tc := ⟨.hbm, 215, rfl⟩
abbrev main_cst_14 : Ref sig .tc := ⟨.hbm, 216, rfl⟩
abbrev main_v110 : Ref sig .tc := ⟨.hbm, 217, rfl⟩
abbrev main_v111 : Ref sig .tc := ⟨.hbm, 218, rfl⟩
abbrev main_v112 : Ref sig .tc := ⟨.hbm, 219, rfl⟩
abbrev main_v113 : Ref sig .tc := ⟨.hbm, 220, rfl⟩
abbrev main_v114 : Ref sig .tc := ⟨.hbm, 221, rfl⟩
abbrev main_v115 : Ref sig .tc := ⟨.hbm, 222, rfl⟩
abbrev main_cst_15 : Ref sig .tc := ⟨.hbm, 223, rfl⟩
abbrev main_v116 : Ref sig .tc := ⟨.hbm, 224, rfl⟩
abbrev main_v117 : Ref sig .tc := ⟨.hbm, 225, rfl⟩
abbrev main_v118 : Ref sig .tc := ⟨.hbm, 226, rfl⟩
abbrev main_v119 : Ref sig .tc := ⟨.hbm, 227, rfl⟩
abbrev main_v120 : Ref sig .tc := ⟨.hbm, 228, rfl⟩
abbrev main_v121 : Ref sig .tc := ⟨.hbm, 229, rfl⟩
abbrev main_cst_16 : Ref sig .tc := ⟨.hbm, 230, rfl⟩
abbrev main_v122 : Ref sig .tc := ⟨.hbm, 231, rfl⟩

abbrev nD : Nat := 1
abbrev τ : Topo := Topo.v7x

variable {F : FTy → Type} [FloatOps F]
-- ==== Proof.Parts.lean ====
module
public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_finite_fitness
public import Idealize.ShloMosaic.Lib.Quiescent

/-! # The frame claims and the named constants

Every run of the three programs ends with the arguments kept and no signal left pending, and each constant the
idealized kernel names denotes the value it is given. -/

@[expose] public section

noncomputable section

open Idealize.ShloMosaic Idealize.ShloMosaic.TcCoe Idealize.SL.Sem

namespace Cert.Beam

/-- The kernel's frame. -/
theorem frame_kernel : Cert.quiescent_Kernel := fun m ρ _ => Cert.Kernel.Gen.frame m ρ
/-- The idealized kernel's frame. -/
theorem frame_ideal : Cert.quiescent_KernelIdeal := fun m ρ _ => Cert.KernelIdeal.Gen.frame m ρ
/-- The reference's frame. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The same under the precondition. -/
theorem frame_ideal_pre : Cert.quiescent_KernelIdeal_pre_finite_fitness := fun m ρ _ => frame_ideal m ρ trivial
/-- The same under the precondition. -/
theorem frame_reference_pre : Cert.quiescent_ReferenceIdeal_pre_finite_fitness := fun m ρ _ => frame_reference m ρ trivial

/-- The twelve offsets `k / 10` that are not binary fractions, and the mask, which is below every number. -/
theorem constants : Cert.preserves_Kernel_KernelIdeal := by
  exact ⟨IdealRules.named_const.statement Cert.KernelIdeal.κ "c1" .f32 0x3DCCCCCD#32 ((1 / 10 : ℝ) : EReal) rfl,
    IdealRules.named_const.statement Cert.KernelIdeal.κ "c2" .f32 0x3E4CCCCD#32 ((1 / 5 : ℝ) : EReal) rfl,
    IdealRules.named_const.statement Cert.KernelIdeal.κ "c3" .f32 0x3E99999A#32 ((3 / 10 : ℝ) : EReal) rfl,
    IdealRules.named_const.statement Cert.KernelIdeal.κ "c4" .f32 0x3ECCCCCD#32 ((2 / 5 : ℝ) : EReal) rfl,
    IdealRules.named_const.statement Cert.KernelIdeal.κ "c6" .f32 0x3F19999A#32 ((3 / 5 : ℝ) : EReal) rfl,
    IdealRules.named_const.statement Cert.KernelIdeal.κ "c7" .f32 0x3F333333#32 ((7 / 10 : ℝ) : EReal) rfl,
    IdealRules.named_const.statement Cert.KernelIdeal.κ "c8" .f32 0x3F4CCCCD#32 ((4 / 5 : ℝ) : EReal) rfl,
    IdealRules.named_const.statement Cert.KernelIdeal.κ "c9" .f32 0x3F666666#32 ((9 / 10 : ℝ) : EReal) rfl,
    IdealRules.named_const.statement Cert.KernelIdeal.κ "c11" .f32 0x3F8CCCCD#32 ((11 / 10 : ℝ) : EReal) rfl,
    IdealRules.named_const.statement Cert.KernelIdeal.κ "c12" .f32 0x3F99999A#32 ((6 / 5 : ℝ) : EReal) rfl,
    IdealRules.named_const.statement Cert.KernelIdeal.κ "c13" .f32 0x3FA66666#32 ((13 / 10 : ℝ) : EReal) rfl,
    IdealRules.named_const.statement Cert.KernelIdeal.κ "c14" .f32 0x3FB33333#32 ((7 / 5 : ℝ) : EReal) rfl,
    IdealRules.named_const.statement Cert.KernelIdeal.κ "mask" .f32 0xFF61B1E6#32 ⊥ rfl⟩

end Cert.Beam

end
-- ==== Proof.Model.lean ====
module

public import proofs.«01_k».proof.Proof.Gen.KernelIdeal.Skeleton

/-! # The kernel as one function of its blocks

The kernel's text, written once for every round and every depth: a round takes the greatest fit of each batch row,
the first column that holds it, and masks that column; a depth lays the beam's states one after another, runs the
dense layer and `tanh`, scores the candidates, and picks eight. -/

@[expose] public section

noncomputable section

namespace Cert.Beam

open Idealize.ShloMosaic Idealize.SL.Sem Cert.KernelIdeal Cert.KernelIdeal.Gen

variable {F : FTy → Type} [FloatOps F] [Named F]

/-- A fit per batch row and candidate: 64 rows, `n` candidates. -/
abbrev W (n : ℕ) : Shape := ⟨2, ![64, n]⟩

/-- What the operations of a round ask of their shapes. -/
structure Sides (n : ℕ) : Prop where
  red : (W n).Reduces [1] S64
  bc : S64x1.Broadcasts (W n)
  io : (W n).Iotas .tc 32 [1]

theorem sides16 : Sides 16 := ⟨reduces_S64x16_S64, broadcasts_S64x1_S64x16, iota_S64x16_d1_w32⟩
theorem sides128 : Sides 128 := ⟨reduces_S64x128_S64, broadcasts_S64x1_S64x128, iota_S64x128_d1_w32⟩

section round
variable {n : ℕ} (h : Sides n)

/-- The greatest fit of each row. -/
def rowMax (f : FVec F (W n) .f32) : FVec F S64x1 .f32 :=
  shapeCast S64x1 (multiReduction .maximumf [1] S64 f 0xFF800000#32 h.red (.inl rfl) rfl) shapeCasts_S64_S64x1

/-- The first column that holds it. -/
def pick (f : FVec F (W n) .f32) : IVec S64x1 32 :=
  shapeCast S64x1 (multiReductionI .minsi [1] S64
    (select (cmpf .oeq f (broadcastTo (W n) (rowMax h f) h.bc)) (iota .tc (W n) 32 [1] h.io)
      (broadcast (W n) (BitVec.ofNat 32 n))) 2147483647#32 h.red rfl) shapeCasts_S64_S64x1

/-- The fits with that column masked. -/
def maskOut (f : FVec F (W n) .f32) : FVec F (W n) .f32 :=
  select (cmpi .eq (iota .tc (W n) 32 [1] h.io) (broadcastTo (W n) (pick h f) h.bc))
    (broadcast (W n) (Named.named κ "mask" 0xFF61B1E6#32)) f

/-- The fits after `j` rounds. -/
def left (f : FVec F (W n) .f32) (j : ℕ) : FVec F (W n) .f32 :=
  Nat.rec f (fun _ g => maskOut h g) j

end round

/-- The floor of the picked number by `d`. -/
def quot (d : BitVec 32) (c : IVec S64x1 32) : IVec S64x1 32 :=
  select (andi
      (cmpi .ne (subi (extui 32 (cmpi .sgt c (broadcast S64x1 0#32)) natLt_1_32)
          (extui 32 (cmpi .slt c (broadcast S64x1 0#32)) natLt_1_32))
        (broadcast S64x1 (Scalar.subi (Scalar.extui (Scalar.cmpi .sgt d 0#32)) (Scalar.extui (Scalar.cmpi .slt d 0#32)))))
      (cmpi .ne (remsi c (broadcast S64x1 d)) (broadcast S64x1 0#32)))
    (subi (divsi c (broadcast S64x1 d)) (broadcast S64x1 1#32)) (divsi c (broadcast S64x1 d))

/-- The picked number modulo 8. -/
def rem8 (c : IVec S64x1 32) : IVec S64x1 32 :=
  select (andi
      (xori (cmpi .slt (remsi c (broadcast S64x1 (Scalar.select (Scalar.cmpi .eq 8#32 0#32) 1#32 8#32))) (broadcast S64x1 0#32))
        (broadcastTo S64x1 (broadcast S64x1 (Scalar.cmpi .slt (Scalar.select (Scalar.cmpi .eq 8#32 0#32) 1#32 8#32) 0#32))
          broadcasts_S64x1_S64x1))
      (cmpi .ne (remsi c (broadcast S64x1 (Scalar.select (Scalar.cmpi .eq 8#32 0#32) 1#32 8#32))) (broadcast S64x1 0#32)))
    (addi (remsi c (broadcast S64x1 (Scalar.select (Scalar.cmpi .eq 8#32 0#32) 1#32 8#32)))
      (broadcast S64x1 (Scalar.select (Scalar.cmpi .eq 8#32 0#32) 1#32 8#32)))
    (remsi c (broadcast S64x1 (Scalar.select (Scalar.cmpi .eq 8#32 0#32) 1#32 8#32)))

/-- One bit of a number of each row, along the row. -/
def bit (c : IVec S64x1 32) (b : BitVec 32) : IVec S64x1024 1 :=
  broadcastTo S64x1024 (shapeCast S64x1 (cmpi .sgt (andi c (broadcast S64x1 b)) (broadcast S64x1 0#32))
    shapeCasts_S64x1_S64x1) broadcasts_S64x1_S64x1024

/-- The one of eight blocks that a number names, by its three bits. -/
def choose (t : ℕ → FVec F S64x1024 .f32) (c : IVec S64x1 32) : FVec F S64x1024 .f32 :=
  select (bit c 4#32)
    (select (bit c 2#32) (select (bit c 1#32) (t 7) (t 6)) (select (bit c 1#32) (t 5) (t 4)))
    (select (bit c 2#32) (select (bit c 1#32) (t 3) (t 2)) (select (bit c 1#32) (t 1) (t 0)))

/-- A tenth of the picked candidate's distance number. -/
def shift (d : BitVec 32) (c : IVec S64x1 32) : FVec F S64x1024 .f32 :=
  broadcastTo S64x1024 (mulf (broadcast S64x1 (Named.named κ "c1" 0x3DCCCCCD#32)) (sitofp .f32 (quot d c)))
    broadcasts_S64x1_S64x1024

/-- The offset of distance `k`. -/
def off (k : ℕ) : F .f32 :=
  match k with
  | 0 => Scalar.ofBits .f32 0x00000000#32
  | 1 => Named.named κ "c1" 0x3DCCCCCD#32
  | 2 => Named.named κ "c2" 0x3E4CCCCD#32
  | 3 => Named.named κ "c3" 0x3E99999A#32
  | 4 => Named.named κ "c4" 0x3ECCCCCD#32
  | 5 => Scalar.ofBits .f32 0x3F000000#32
  | 6 => Named.named κ "c6" 0x3F19999A#32
  | 7 => Named.named κ "c7" 0x3F333333#32
  | 8 => Named.named κ "c8" 0x3F4CCCCD#32
  | 9 => Named.named κ "c9" 0x3F666666#32
  | 10 => Scalar.ofBits .f32 0x3F800000#32
  | 11 => Named.named κ "c11" 0x3F8CCCCD#32
  | 12 => Named.named κ "c12" 0x3F99999A#32
  | 13 => Named.named κ "c13" 0x3FA66666#32
  | 14 => Named.named κ "c14" 0x3FB33333#32
  | _ => Scalar.ofBits .f32 0x3FC00000#32

/-- The first depth's block under the dense layer. -/
def dense1 (w : FVec F S1024x1024 .f32) (b : FVec F S1x1024 .f32) (x : FVec F S64x1024 .f32) : FVec F S64x1024 .f32 :=
  tanh (addf (matmul dot_S64x1024_S1024x1024_S64x1024_1_0_0_1_n_n none x w (constant S64x1024 .f32 0x00000000#32))
    (broadcastTo S64x1024 (shapeCast S1x1024 b shapeCasts_S1x1024_S1x1024) broadcasts_S1x1024_S64x1024))

/-- The fits of the first depth's candidates of distance `k`. -/
def fit1 (wf : FVec F S1024x1 .f32) (bf : F .f32) (t : FVec F S64x1024 .f32) (k : ℕ) : FVec F S64x1 .f32 :=
  addf (matmul dot_S64x1024_S1024x1_S64x1_1_0_0_1_n_n none
      (truncf .bf16 (addf t (broadcast S64x1024 (off k))) bitsLt_bf16_f32) (truncf .bf16 wf bitsLt_bf16_f32)
      (constant S64x1 .f32 0x00000000#32)) (broadcast S64x1 bf)

/-- The same one beside the other. -/
def join1 (col : ℕ → FVec F S64x1 .f32) : FVec F S64x16 .f32 :=
  concatenate S64x16 1
    [⟨S64x1, col 0⟩, ⟨S64x1, col 1⟩, ⟨S64x1, col 2⟩, ⟨S64x1, col 3⟩, ⟨S64x1, col 4⟩, ⟨S64x1, col 5⟩, ⟨S64x1, col 6⟩,
    ⟨S64x1, col 7⟩, ⟨S64x1, col 8⟩, ⟨S64x1, col 9⟩, ⟨S64x1, col 10⟩, ⟨S64x1, col 11⟩, ⟨S64x1, col 12⟩, ⟨S64x1, col 13⟩,
    ⟨S64x1, col 14⟩, ⟨S64x1, col 15⟩]
    concatenates_S64x1_S64x1_S64x1_S64x1_S64x1_S64x1_S64x1_S64x1_S64x1_S64x1_S64x1_S64x1_S64x1_S64x1_S64x1_S64x1_S64x16_d1

/-- The eight states one under the other, under the dense layer. -/
def dense8 (w : FVec F S1024x1024 .f32) (b : FVec F S1x1024 .f32) (rows : ℕ → FVec F S64x1024 .f32) :
    FVec F S512x1024 .f32 :=
  tanh (addf (matmul dot_S512x1024_S1024x1024_S512x1024_1_0_0_1_n_n none
      (concatenate S512x1024 0
    [⟨S64x1024, rows 0⟩, ⟨S64x1024, rows 1⟩, ⟨S64x1024, rows 2⟩, ⟨S64x1024, rows 3⟩, ⟨S64x1024, rows 4⟩, ⟨S64x1024, rows
    5⟩, ⟨S64x1024, rows 6⟩, ⟨S64x1024, rows 7⟩]
        concatenates_S64x1024_S64x1024_S64x1024_S64x1024_S64x1024_S64x1024_S64x1024_S64x1024_S512x1024_d0)
      w (constant S512x1024 .f32 0x00000000#32))
    (broadcastTo S512x1024 (shapeCast S1x1024 b shapeCasts_S1x1024_S1x1024) broadcasts_S1x1024_S512x1024))

theorem slice_ok : ∀ s : Fin 8, S512x1024.Slices ![64 * s.val, 0] S64x1024 := by decide
theorem slice1_ok : ∀ s : Fin 8, S512x1.Slices ![64 * s.val, 0] S64x1 := by decide

/-- Block `s` of the eight. -/
def block (t : FVec F S512x1024 .f32) (s : ℕ) : FVec F S64x1024 .f32 :=
  extractStridedSlice S64x1024 ![64 * (s % 8), 0] t (slice_ok ⟨s % 8, Nat.mod_lt _ (by decide)⟩)

/-- The fits of the candidates of distance `k`, all eight blocks. -/
def fit8 (wf : FVec F S1024x1 .f32) (bf : F .f32) (t : FVec F S512x1024 .f32) (k : ℕ) : FVec F S512x1 .f32 :=
  addf (matmul dot_S512x1024_S1024x1_S512x1_1_0_0_1_n_n none
      (truncf .bf16 (addf t (broadcast S512x1024 (off k))) bitsLt_bf16_f32) (truncf .bf16 wf bitsLt_bf16_f32)
      (constant S512x1 .f32 0x00000000#32)) (broadcast S512x1 bf)

/-- Block `s` of them. -/
def fitBlock (wf : FVec F S1024x1 .f32) (bf : F .f32) (t : FVec F S512x1024 .f32) (s k : ℕ) : FVec F S64x1 .f32 :=
  extractStridedSlice S64x1 ![64 * (s % 8), 0] (fit8 wf bf t k) (slice1_ok ⟨s % 8, Nat.mod_lt _ (by decide)⟩)

/-- All 128 one beside the other: distance by distance, and in each state by state. -/
def join8 (col : ℕ → ℕ → FVec F S64x1 .f32) : FVec F S64x128 .f32 :=
  concatenate S64x128 1
    (⟨S64x1, col 0 0⟩ :: ⟨S64x1, col 1 0⟩ :: ⟨S64x1, col 2 0⟩ :: ⟨S64x1, col 3 0⟩ :: ⟨S64x1, col 4 0⟩ :: ⟨S64x1, col 5 0⟩ ::
    ⟨S64x1, col 6 0⟩ :: ⟨S64x1, col 7 0⟩ :: ⟨S64x1, col 0 1⟩ :: ⟨S64x1, col 1 1⟩ :: ⟨S64x1, col 2 1⟩ :: ⟨S64x1, col 3 1⟩
    :: ⟨S64x1, col 4 1⟩ :: ⟨S64x1, col 5 1⟩ :: ⟨S64x1, col 6 1⟩ :: ⟨S64x1, col 7 1⟩ :: ⟨S64x1, col 0 2⟩ :: ⟨S64x1, col 1
    2⟩ :: ⟨S64x1, col 2 2⟩ :: ⟨S64x1, col 3 2⟩ :: ⟨S64x1, col 4 2⟩ :: ⟨S64x1, col 5 2⟩ :: ⟨S64x1, col 6 2⟩ :: ⟨S64x1,
    col 7 2⟩ :: ⟨S64x1, col 0 3⟩ :: ⟨S64x1, col 1 3⟩ :: ⟨S64x1, col 2 3⟩ :: ⟨S64x1, col 3 3⟩ :: ⟨S64x1, col 4 3⟩ ::
    ⟨S64x1, col 5 3⟩ :: ⟨S64x1, col 6 3⟩ :: ⟨S64x1, col 7 3⟩ :: ⟨S64x1, col 0 4⟩ :: ⟨S64x1, col 1 4⟩ :: ⟨S64x1, col 2 4⟩
    :: ⟨S64x1, col 3 4⟩ :: ⟨S64x1, col 4 4⟩ :: ⟨S64x1, col 5 4⟩ :: ⟨S64x1, col 6 4⟩ :: ⟨S64x1, col 7 4⟩ :: ⟨S64x1, col 0
    5⟩ :: ⟨S64x1, col 1 5⟩ :: ⟨S64x1, col 2 5⟩ :: ⟨S64x1, col 3 5⟩ :: ⟨S64x1, col 4 5⟩ :: ⟨S64x1, col 5 5⟩ :: ⟨S64x1,
    col 6 5⟩ :: ⟨S64x1, col 7 5⟩ :: ⟨S64x1, col 0 6⟩ :: ⟨S64x1, col 1 6⟩ :: ⟨S64x1, col 2 6⟩ :: ⟨S64x1, col 3 6⟩ ::
    ⟨S64x1, col 4 6⟩ :: ⟨S64x1, col 5 6⟩ :: ⟨S64x1, col 6 6⟩ :: ⟨S64x1, col 7 6⟩ :: ⟨S64x1, col 0 7⟩ :: ⟨S64x1, col 1 7⟩
    :: ⟨S64x1, col 2 7⟩ :: ⟨S64x1, col 3 7⟩ :: ⟨S64x1, col 4 7⟩ :: ⟨S64x1, col 5 7⟩ :: ⟨S64x1, col 6 7⟩ :: ⟨S64x1, col 7
    7⟩ :: ⟨S64x1, col 0 8⟩ :: ⟨S64x1, col 1 8⟩ :: ⟨S64x1, col 2 8⟩ :: ⟨S64x1, col 3 8⟩ :: ⟨S64x1, col 4 8⟩ :: ⟨S64x1,
    col 5 8⟩ :: ⟨S64x1, col 6 8⟩ :: ⟨S64x1, col 7 8⟩ :: ⟨S64x1, col 0 9⟩ :: ⟨S64x1, col 1 9⟩ :: ⟨S64x1, col 2 9⟩ ::
    ⟨S64x1, col 3 9⟩ :: ⟨S64x1, col 4 9⟩ :: ⟨S64x1, col 5 9⟩ :: ⟨S64x1, col 6 9⟩ :: ⟨S64x1, col 7 9⟩ :: ⟨S64x1, col 0
    10⟩ :: ⟨S64x1, col 1 10⟩ :: ⟨S64x1, col 2 10⟩ :: ⟨S64x1, col 3 10⟩ :: ⟨S64x1, col 4 10⟩ :: ⟨S64x1, col 5 10⟩ ::
    ⟨S64x1, col 6 10⟩ :: ⟨S64x1, col 7 10⟩ :: ⟨S64x1, col 0 11⟩ :: ⟨S64x1, col 1 11⟩ :: ⟨S64x1, col 2 11⟩ :: ⟨S64x1, col
    3 11⟩ :: ⟨S64x1, col 4 11⟩ :: ⟨S64x1, col 5 11⟩ :: ⟨S64x1, col 6 11⟩ :: ⟨S64x1, col 7 11⟩ :: ⟨S64x1, col 0 12⟩ ::
    ⟨S64x1, col 1 12⟩ :: ⟨S64x1, col 2 12⟩ :: ⟨S64x1, col 3 12⟩ :: ⟨S64x1, col 4 12⟩ :: ⟨S64x1, col 5 12⟩ :: ⟨S64x1, col
    6 12⟩ :: ⟨S64x1, col 7 12⟩ :: ⟨S64x1, col 0 13⟩ :: ⟨S64x1, col 1 13⟩ :: ⟨S64x1, col 2 13⟩ :: ⟨S64x1, col 3 13⟩ ::
    ⟨S64x1, col 4 13⟩ :: ⟨S64x1, col 5 13⟩ :: ⟨S64x1, col 6 13⟩ :: ⟨S64x1, col 7 13⟩ :: ⟨S64x1, col 0 14⟩ :: ⟨S64x1, col
    1 14⟩ :: ⟨S64x1, col 2 14⟩ :: ⟨S64x1, col 3 14⟩ :: ⟨S64x1, col 4 14⟩ :: ⟨S64x1, col 5 14⟩ :: ⟨S64x1, col 6 14⟩ ::
    ⟨S64x1, col 7 14⟩ :: ⟨S64x1, col 0 15⟩ :: ⟨S64x1, col 1 15⟩ :: ⟨S64x1, col 2 15⟩ :: ⟨S64x1, col 3 15⟩ :: ⟨S64x1, col
    4 15⟩ :: ⟨S64x1, col 5 15⟩ :: ⟨S64x1, col 6 15⟩ :: ⟨S64x1, col 7 15⟩ :: [])
    concatenates_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x128_d1

/-- Depth one: the fits. -/
def fits1 (w : FVec F S1024x1024 .f32) (b : FVec F S1x1024 .f32) (wf : FVec F S1024x1 .f32) (bf : F .f32)
    (x : FVec F S64x1024 .f32) : FVec F S64x16 .f32 :=
  join1 (fit1 wf bf (dense1 w b x))

/-- Depth one: state `j`. -/
def next1 (w : FVec F S1024x1024 .f32) (b : FVec F S1x1024 .f32) (wf : FVec F S1024x1 .f32) (bf : F .f32)
    (x : FVec F S64x1024 .f32) (j : ℕ) : FVec F S64x1024 .f32 :=
  addf (dense1 w b x) (shift 1#32 (pick sides16 (left sides16 (fits1 w b wf bf x) j)))

/-- A later depth: the fits. -/
def fits8 (w : FVec F S1024x1024 .f32) (b : FVec F S1x1024 .f32) (wf : FVec F S1024x1 .f32) (bf : F .f32)
    (rows : ℕ → FVec F S64x1024 .f32) : FVec F S64x128 .f32 :=
  join8 (fitBlock wf bf (dense8 w b rows))

/-- A later depth: state `j`. -/
def next8 (w : FVec F S1024x1024 .f32) (b : FVec F S1x1024 .f32) (wf : FVec F S1024x1 .f32) (bf : F .f32)
    (rows : ℕ → FVec F S64x1024 .f32) (j : ℕ) : FVec F S64x1024 .f32 :=
  addf (choose (block (dense8 w b rows)) (rem8 (pick sides128 (left sides128 (fits8 w b wf bf rows) j))))
    (shift 8#32 (pick sides128 (left sides128 (fits8 w b wf bf rows) j)))

/-- A later depth: the fit of state `j`. -/
def best8 (w : FVec F S1024x1024 .f32) (b : FVec F S1x1024 .f32) (wf : FVec F S1024x1 .f32) (bf : F .f32)
    (rows : ℕ → FVec F S64x1024 .f32) (j : ℕ) : FVec F S64x1 .f32 :=
  rowMax sides128 (left sides128 (fits8 w b wf bf rows) j)

/-- The eight fits of each row, less the greatest, under the exponential. -/
def expo (mx : ℕ → FVec F S64x1 .f32) : FVec F S64x8 .f32 :=
  let f : FVec F S64x8 .f32 := concatenate S64x8 1
        [⟨S64x1, mx 0⟩, ⟨S64x1, mx 1⟩, ⟨S64x1, mx 2⟩, ⟨S64x1, mx 3⟩, ⟨S64x1, mx 4⟩, ⟨S64x1, mx 5⟩, ⟨S64x1, mx 6⟩,
    ⟨S64x1, mx 7⟩]
      concatenates_S64x1_S64x1_S64x1_S64x1_S64x1_S64x1_S64x1_S64x1_S64x8_d1
  exp (subf f (broadcastTo S64x8 (shapeCast S64x1 (maximumf (broadcast S64 (Scalar.ofBits .f32 0xFF800000#32))
    (multiReduction .maximumf [1] S64 f 0xFF800000#32 reduces_S64x8_S64 (.inl rfl) rfl)) shapeCasts_S64_S64x1)
    broadcasts_S64x1_S64x8))

/-- The weights. -/
def weights (mx : ℕ → FVec F S64x1 .f32) : FVec F S64x8 .f32 :=
  divf (expo mx) (broadcastTo S64x8 (shapeCast S64x1
    (multiReduction .add [1] S64 (expo mx) 0x00000000#32 reduces_S64x8_S64 (.inl rfl) rfl) shapeCasts_S64_S64x1)
    broadcasts_S64x1_S64x8)

theorem slice8_ok : ∀ s : Fin 8, S64x8.Slices ![0, s.val] S64x1 := by decide

/-- State `j` times its weight. -/
def part (wt : FVec F S64x8 .f32) (rows : ℕ → FVec F S64x1024 .f32) (j : ℕ) : FVec F S64x1024 .f32 :=
  mulf (rows j) (broadcastTo S64x1024
    (extractStridedSlice S64x1 ![0, j % 8] wt (slice8_ok ⟨j % 8, Nat.mod_lt _ (by decide)⟩)) broadcasts_S64x1_S64x1024)

/-- The sum of the eight. -/
def total (p : ℕ → FVec F S64x1024 .f32) : FVec F S64x1024 .f32 :=
  addf (addf (addf (p 0) (p 1)) (addf (p 2) (p 3))) (addf (addf (p 4) (p 5)) (addf (p 6) (p 7)))

/-- The kernel. -/
def kernelOut (x : FVec F S64x1024 .f32) (w : FVec F S1024x1024 .f32) (b : FVec F S1x1024 .f32) (wf : FVec F S1024x1 .f32)
    (bf : F .f32) : FVec F S64x1024 .f32 :=
  total (part (weights (best8 w b wf bf (next8 w b wf bf (next8 w b wf bf (next1 w b wf bf x)))))
    (next8 w b wf bf (next8 w b wf bf (next8 w b wf bf (next1 w b wf bf x)))))

end Cert.Beam

end
-- ==== Proof.Kernel.lean ====
module

public import proofs.«01_k».proof.Proof.Model
public import proofs.«01_k».proof.Proof.Gen.KernelIdeal.Value
public import Idealize.ShloMosaic.Lib.Pointwise

/-! # What the kernel's run leaves in the result array -/

@[expose] public section

noncomputable section

namespace Cert.Beam

open Idealize.ShloMosaic Idealize.ShloMosaic.TcCoe Idealize.SL.Sem Cert.KernelIdeal Cert.KernelIdeal.Gen

variable {F : FTy → Type} [FloatOps F] [Named F]

theorem zeros : (![0, 0] : Fin 2 → Nat) = fun _ => 0 := funext fun a => by fin_cases a <;> rfl

set_option maxRecDepth 65536 in
/-- The body stores once, and what it stores is `kernelOut` of the blocks it read. -/
theorem pieces_eq (c : Dev nD) (arg0 : Memref sig .tc .vmem S64x1024 .f32) (h0 : arg0.IsWhole)
    (arg1 : Memref sig .tc .vmem S1024x1024 .f32) (h1 : arg1.IsWhole)
    (arg2 : Memref sig .tc .vmem S1x1024 .f32) (h2 : arg2.IsWhole)
    (arg3 : Memref sig .tc .vmem S1024x1 .f32) (h3 : arg3.IsWhole)
    (arg4 : Memref sig .tc .smem S1x1 .f32) (h4 : arg4.IsWhole)
    (arg5 : Memref sig .tc .vmem S64x1024 .f32) (h5 : arg5.IsWhole)
    (x0 : Vec F S64x1024 .f32) (x1 : Vec F S1024x1024 .f32) (x2 : Vec F S1x1024 .f32) (x3 : Vec F S1024x1 .f32)
    (x4 : Vec F S1x1 .f32) :
    (kernelRun0_A c arg0 h0 arg1 h1 arg2 h2 arg3 h3 arg4 h4 arg5 h5 x0 x1 x2 x3 x4).1
    = ([⟨Rect.unit ![0, 0] S64x1024.size inb_S64x1024_S64x1024_0_0,
      kernelOut
        (View.readAt (Elt F) arg0.view (Rect.unit ![0, 0] S64x1024.size inb_S64x1024_S64x1024_0_0).toLoadRect (h0.unread x0))
        (View.readAt (Elt F) arg1.view (Rect.unit ![0, 0] S1024x1024.size inb_S1024x1024_S1024x1024_0_0).toLoadRect (h1.unread x1))
        (View.readAt (Elt F) arg2.view (Rect.unit ![0, 0] S1x1024.size inb_S1x1024_S1x1024_0_0).toLoadRect (h2.unread x2))
        (View.readAt (Elt F) arg3.view (Rect.unit ![0, 0] S1024x1.size inb_S1024x1_S1024x1_0_0).toLoadRect (h3.unread x3))
        (View.readAt (Elt F) arg4.view (Rect.unit (s := S1x1) ![0, 0] S1x1.size inb_S1x1_S1x1_0_0).toLoadRect (h4.unread x4)
          (Shape.Idx.first (by decide)))⟩] :
      List (View.Piece (Elt F) S64x1024 .f32)) := by
  sl_kernel_rfl

/-- What the run leaves in the output's buffer: the kernel's function of the blocks. -/
theorem out_eq (c : Dev nD) (arg0 : Memref sig .tc .vmem S64x1024 .f32) (h0 : arg0.IsWhole)
    (arg1 : Memref sig .tc .vmem S1024x1024 .f32) (h1 : arg1.IsWhole)
    (arg2 : Memref sig .tc .vmem S1x1024 .f32) (h2 : arg2.IsWhole)
    (arg3 : Memref sig .tc .vmem S1024x1 .f32) (h3 : arg3.IsWhole)
    (arg4 : Memref sig .tc .smem S1x1 .f32) (h4 : arg4.IsWhole)
    (arg5 : Memref sig .tc .vmem S64x1024 .f32) (h5 : arg5.IsWhole)
    (x0 : Vec F S64x1024 .f32) (x1 : Vec F S1024x1024 .f32) (x2 : Vec F S1x1024 .f32) (x3 : Vec F S1024x1 .f32)
    (x4 : Vec F S1x1 .f32) :
    out0_A_5 c arg0 h0 arg1 h1 arg2 h2 arg3 h3 arg4 h4 arg5 h5 x0 x1 x2 x3 x4
      = kernelOut x0 x1 x2 x3 (x4 (ix2 (0 : Fin 1) (0 : Fin 1))) := by
  unfold out0_A_5
  rw [View.read_writes_junk_eq_canon, pieces_eq]
  simp only [View.readAt_eq_ld, h0.read_unread, h1.read_unread, h2.read_unread, h3.read_unread, h4.read_unread]
  rw [View.canon_unit_zero zeros, View.ld_unit_zero zeros, View.ld_unit_zero zeros, View.ld_unit_zero zeros,
    View.ld_unit_zero zeros, View.ld_unit_zero zeros]
  refine congrArg (fun i => kernelOut x0 x1 x2 x3 (x4 i)) (funext fun a => ?_)
  match a with
  | ⟨0, _⟩ => rfl
  | ⟨1, _⟩ => rfl

variable (m : (ℓ : Loc nD τ sig) → Buf (Elt F) ℓ) (ρ : Dev nD → PrngReg)

/-! At the one grid point each window's block is its whole array. -/

/-- An index moved by a zero block stays. -/
theorem stays {s : Shape} (g : Fin s.rank → ℕ) (e : s.Idx → s.Idx) (hg : ∀ a, g a = 0)
    (he : ∀ j a, (e j a).val = g a * s.size a + 1 * (j a).val) (j : s.Idx) : e j = j := by
  funext a
  refine Fin.ext ?_
  rw [he, hg, Nat.zero_mul, Nat.zero_add, Nat.one_mul]

theorem emb0 (t : Fin cfg0.N) (j : S64x1024.Idx) : ((cfg0.win 0).blk t).view.emb j = j :=
  stays (win0_0.index t) ((cfg0.win 0).blk t).view.emb
    ((by decide +kernel : ∀ (t : Fin grid0.N) (a : Fin 2), win0_0.index t a = 0) t) (fun _ _ => rfl) j

theorem emb1 (t : Fin cfg0.N) (j : S1024x1024.Idx) : ((cfg0.win 1).blk t).view.emb j = j :=
  stays (win0_1.index t) ((cfg0.win 1).blk t).view.emb
    ((by decide +kernel : ∀ (t : Fin grid0.N) (a : Fin 2), win0_1.index t a = 0) t) (fun _ _ => rfl) j

theorem emb2 (t : Fin cfg0.N) (j : S1x1024.Idx) : ((cfg0.win 2).blk t).view.emb j = j :=
  stays (win0_2.index t) ((cfg0.win 2).blk t).view.emb
    ((by decide +kernel : ∀ (t : Fin grid0.N) (a : Fin 2), win0_2.index t a = 0) t) (fun _ _ => rfl) j

theorem emb3 (t : Fin cfg0.N) (j : S1024x1.Idx) : ((cfg0.win 3).blk t).view.emb j = j :=
  stays (win0_3.index t) ((cfg0.win 3).blk t).view.emb
    ((by decide +kernel : ∀ (t : Fin grid0.N) (a : Fin 2), win0_3.index t a = 0) t) (fun _ _ => rfl) j

theorem emb4 (t : Fin cfg0.N) (j : S1x1.Idx) : ((cfg0.win 4).blk t).view.emb j = j :=
  stays (win0_4.index t) ((cfg0.win 4).blk t).view.emb
    ((by decide +kernel : ∀ (t : Fin grid0.N) (a : Fin 2), win0_4.index t a = 0) t) (fun _ _ => rfl) j

theorem emb5 (t : Fin cfg0.N) (j : S64x1024.Idx) : ((cfg0.win 5).blk t).view.emb j = j :=
  stays (win0_5.index t) ((cfg0.win 5).blk t).view.emb
    ((by decide +kernel : ∀ (t : Fin grid0.N) (a : Fin 2), win0_5.index t a = 0) t) (fun _ _ => rfl) j

theorem block0 (c : Dev nD) (t : Fin cfg0.N) : iblk m c 0 t = V m c main_arg0 := by
  funext j; show V m c main_arg0 (((cfg0.win 0).blk t).view.emb j) = V m c main_arg0 j; rw [emb0]

theorem block1 (c : Dev nD) (t : Fin cfg0.N) : iblk m c 1 t = V m c main_arg1 := by
  funext j; show V m c main_arg1 (((cfg0.win 1).blk t).view.emb j) = V m c main_arg1 j; rw [emb1]

theorem block2 (c : Dev nD) (t : Fin cfg0.N) : iblk m c 2 t = V m c main_v0 := by
  funext j; show V m c main_v0 (((cfg0.win 2).blk t).view.emb j) = V m c main_v0 j; rw [emb2]

theorem block3 (c : Dev nD) (t : Fin cfg0.N) : iblk m c 3 t = V m c main_arg3 := by
  funext j; show V m c main_arg3 (((cfg0.win 3).blk t).view.emb j) = V m c main_arg3 j; rw [emb3]

theorem block4 (c : Dev nD) (t : Fin cfg0.N) : iblk m c 4 t = V m c main_v1 := by
  funext j; show V m c main_v1 (((cfg0.win 4).blk t).view.emb j) = V m c main_v1 j; rw [emb4]

/-- The kernel's function of the arrays that the region finds. -/
def found (c : Dev nD) : Vec F S64x1024 .f32 :=
  kernelOut (V m c main_arg0) (V m c main_arg1) (V m c main_v0) (V m c main_arg3)
    (V m c main_v1 (ix2 (0 : Fin 1) (0 : Fin 1)))

/-- The one block of the result array is the whole of it. -/
theorem cut5 (t : Fin cfg0.N) (X : Vec F S64x1024 .f32) :
    (cfg0.win 5).cut (grid0.coords t) X = ((cfg0.win 5).blk t).view.read (Elt F) X := by
  funext j
  show X j = X (((cfg0.win 5).blk t).view.emb j)
  rw [emb5]

/-- What the one grid point writes back is the kernel's function of the arrays. -/
theorem written (c : Dev nD) (t : Fin cfg0.N) :
    (dats m 0 c).flushed 5 t = ((cfg0.win 5).blk t).view.read (Elt F) (found m c) := by
  rw [Cert.KernelIdeal.Value.flushed5_A, out_eq, block0, block1, block2, block3, block4]
  exact cut5 t _

/-- That block covers every index of the result. -/
theorem covered (i : S64x1024.Idx) :
    ∃ t : Fin cfg0.N, (cfg0.win 5).flush t = true ∧ i ∈ ((cfg0.win 5).blk t).view.set :=
  ⟨(⟨0, by decide⟩ : Fin cfg0.N), flush0_5 _, by
    have h := ((cfg0.win 5).blk (⟨0, by decide⟩ : Fin cfg0.N)).view.emb_mem_set i; rwa [emb5] at h⟩

/-- The result array after the run. -/
theorem final (c : Dev nD) : (dats m 0 c).arrAt 5 cfg0.N = found m c :=
  (dats m 0 c).arrAt_eq_of_cover 5 (found m c) (fun t _ => written m c t) covered

end Cert.Beam

end
-- ==== Proof.Consts.lean ====
module

public import Idealize.ShloMosaic.PureOps.Ideal

/-! # The literal constants of the two programs, as extended reals -/

@[expose] public section

noncomputable section

namespace Cert.Beam

open Idealize.ShloMosaic

theorem ofBits_bot : Ideal.ofBits .f32 0xFF800000#32 = ⊥ := by
  simp [Ideal.ofBits, Ideal.ieee]

theorem ofBits_top : Ideal.ofBits .f32 0x7F800000#32 = ⊤ := by
  simp [Ideal.ofBits, Ideal.ieee]

theorem ofBits_half : Ideal.ofBits .f32 0x3F000000#32 = ((5 / 10 : ℝ) : EReal) := by
  simp [Ideal.ofBits, Ideal.ieee, -EReal.coe_mul]; norm_num

theorem ofBits_one : Ideal.ofBits .f32 0x3F800000#32 = ((10 / 10 : ℝ) : EReal) := by
  simp [Ideal.ofBits, Ideal.ieee, -EReal.coe_mul]; norm_num

theorem ofBits_three_halves : Ideal.ofBits .f32 0x3FC00000#32 = ((15 / 10 : ℝ) : EReal) := by
  simp [Ideal.ofBits, Ideal.ieee, -EReal.coe_mul]; norm_num

theorem ofBits_ten : Ideal.ofBits .f32 0x41200000#32 = ((10 : ℝ) : EReal) := by
  simp [Ideal.ofBits, Ideal.ieee, -EReal.coe_mul]; norm_num

end Cert.Beam

end
-- ==== Proof.Order.lean ====
module

public import Mathlib.Data.EReal.Basic
public import Idealize.ShloMosaic.Lib.PlanTiles.StableSort

/-! # The order of a row of fits

The positions of a row, the greatest value first and the lower position first among equals. Taking the first position
of the greatest value and putting `⊥` there, again and again, takes the positions in this order. -/

@[expose] public section

noncomputable section

namespace Cert.Beam

open Idealize.ShloMosaic

variable {n : ℕ} (f : Fin n → EReal)

/-- How many values of the row are smaller. -/
def rank (a : Fin n) : ℕ := (Finset.univ.filter fun i => f i < f a).card

/-- A greater value has no smaller rank. -/
theorem rank_mono {a b : Fin n} (h : f a ≤ f b) : rank f a ≤ rank f b :=
  Finset.card_le_card fun i hi => by
    rw [Finset.mem_filter] at hi ⊢
    exact ⟨hi.1, hi.2.trans_le h⟩

/-- A strictly greater value has a greater rank. -/
theorem rank_strict {a b : Fin n} (h : f a < f b) : rank f a < rank f b :=
  Finset.card_lt_card (by
    rw [Finset.ssubset_iff_of_subset (fun i hi => by
      rw [Finset.mem_filter] at hi ⊢
      exact ⟨hi.1, hi.2.trans h⟩)]
    exact ⟨a, by simp [h], by simp⟩)

/-- Ranks compare as the values do. -/
theorem rank_lt {a b : Fin n} : rank f a < rank f b ↔ f a < f b :=
  ⟨fun h => not_le.mp fun h' => absurd (rank_mono f h') (not_le.mpr h), rank_strict f⟩

/-- The positions in order. -/
def order : Fin n → Fin n := sortedFrom fun k k' => decide (f k' < f k)

/-- Every place occurs in the order. -/
theorem order_surjective : Function.Surjective (order f) := sortedFrom_surjective _

/-- No place occurs twice. -/
theorem order_injective : Function.Injective (order f) := sortedFrom_injective _

/-- An earlier position holds a greater value, or the same value and stands further left. -/
theorem order_before {i j : Fin n} (h : i < j) :
    f (order f j) < f (order f i) ∨ (f (order f i) = f (order f j) ∧ order f i < order f j) := by
  have e : (fun k k' => decide (f k' < f k)) = fun k k' => decide (rank f k' < rank f k) := by
    funext k k'
    simp only [rank_lt]
  have hp := PlanTiles.pairwise_stableSort_lex (rank f) (· < ·) (List.finRange n) (List.pairwise_lt_finRange n)
  have key := List.pairwise_iff_get.mp hp (i.cast (length_sortPositions n _).symm) (j.cast (length_sortPositions n _).symm) h
  unfold order
  rw [e]
  rcases key with hlt | ⟨heq, hlt⟩
  · exact .inl ((rank_lt f).mp hlt)
  · refine .inr ⟨?_, hlt⟩
    rcases lt_trichotomy (f (sortedFrom (fun k k' => decide (rank f k' < rank f k)) i))
      (f (sortedFrom (fun k k' => decide (rank f k' < rank f k)) j)) with h1 | h1 | h1
    · exact absurd heq (rank_strict f h1).ne
    · exact h1
    · exact absurd heq (rank_strict f h1).ne'

/-- The row after `j` positions are taken. -/
def remain (j : ℕ) (p : Fin n) : EReal :=
  open Classical in if ∃ k : Fin n, k.val < j ∧ order f k = p then ⊥ else f p

/-- Before the first removal all values remain. -/
theorem remain_zero : remain f 0 = f := by
  funext p
  unfold remain
  rw [if_neg]
  rintro ⟨k, hk, _⟩
  omega

/-- The next member of the order still remains, -/
theorem remain_order (j : Fin n) : remain f j.val (order f j) = f (order f j) := by
  unfold remain
  rw [if_neg]
  rintro ⟨k, hk, e⟩
  have := order_injective f e
  omega

/-- is greatest among what remains, -/
theorem remain_le (j p : Fin n) : remain f j.val p ≤ f (order f j) := by
  unfold remain
  split
  · exact bot_le
  · rename_i h
    obtain ⟨k, rfl⟩ := order_surjective f p
    have hk : ¬ k.val < j.val := fun hk => h ⟨k, hk, rfl⟩
    rcases Nat.lt_or_ge j.val k.val with hjk | hjk
    · rcases order_before f (i := j) (j := k) hjk with h1 | ⟨h1, _⟩
      · exact h1.le
      · exact h1.ge
    · have : k = j := Fin.ext (by omega)
      rw [this]

/-- and, where no value is minus infinity, is the first place that is so. -/
theorem remain_first (hf : ∀ p, f p ≠ ⊥) (j p : Fin n) (e : remain f j.val p = f (order f j)) : order f j ≤ p := by
  unfold remain at e
  split at e
  · exact absurd e.symm (hf _)
  · rename_i h
    obtain ⟨k, rfl⟩ := order_surjective f p
    have hk : ¬ k.val < j.val := fun hk => h ⟨k, hk, rfl⟩
    rcases Nat.lt_or_ge j.val k.val with hjk | hjk
    · rcases order_before f (i := j) (j := k) hjk with h1 | ⟨_, h1⟩
      · exact absurd e h1.ne
      · exact h1.le
    · have : k = j := Fin.ext (by omega)
      rw [this]

/-- One more removal takes that place alone. -/
theorem remain_succ (j p : Fin n) : remain f (j.val + 1) p = if p = order f j then ⊥ else remain f j.val p := by
  by_cases hp : p = order f j
  · rw [if_pos hp]
    unfold remain
    rw [if_pos ⟨j, by omega, hp.symm⟩]
  · rw [if_neg hp]
    unfold remain
    congr 1
    refine propext ⟨?_, ?_⟩
    · rintro ⟨k, hk, e⟩
      refine ⟨k, ?_, e⟩
      rcases Nat.lt_or_ge k.val j.val with h | h
      · exact h
      · exact absurd (by rw [← e, show k = j from Fin.ext (by omega)]) hp
    · rintro ⟨k, hk, e⟩
      exact ⟨k, by omega, e⟩

end Cert.Beam

end
-- ==== Proof.Spec.lean ====
module

public import proofs.«01_k».proof.Proof.Order
public import Idealize.ShloMosaic.PureOps.Ideal

/-! # Beam search on one batch row, over the extended reals

A depth takes `m` states, runs the dense layer and `tanh` on each, moves the result by `0/10, 1/10, …, 15/10`, scores
the `16 · m` candidates, and keeps those that stand first in the order of their fits. -/

@[expose] public section

noncomputable section

namespace Cert.Beam

open Idealize.ShloMosaic

/-- The entries of a state. -/
abbrev Row := Fin 1024 → EReal

/-- The layer's parameters: matrix, bias, the fit's vector and bias. -/
structure Par where
  w : Fin 1024 → Row
  b : Row
  wf : Row
  bf : EReal

variable (P : Par)

/-- The dense layer and `tanh`. -/
def act (s : Row) : Row := fun c => Ideal.tanh (∑ k, s k * P.w k c + P.b c)

/-- `k` tenths. -/
def tenth (k : ℕ) : EReal := (((k : ℝ) / 10 : ℝ) : EReal)

/-- The fit of a state. -/
def fitness (s : Row) : EReal := ∑ c, s c * P.wf c + P.bf

/-- Candidate `p` of `m` states: state `p % m`, moved by `p / m` tenths. -/
def cand (m : ℕ) (S : ℕ → Row) (p : ℕ) : Row := fun c => act P (S (p % m)) c + tenth (p / m)

/-- The fits of the first `n` candidates. -/
def fits (m n : ℕ) (S : ℕ → Row) : Fin n → EReal := fun p => fitness P (cand P m S p.val)

/-- The state kept at place `j`. -/
def next (m n : ℕ) (S : ℕ → Row) (j : ℕ) : Row :=
  if h : j < n then cand P m S (order (fits P m n S) ⟨j, h⟩).val else 0

/-- A state of the next beam is a candidate. -/
theorem next_of_lt (m n : ℕ) (S : ℕ → Row) {j : ℕ} (h : j < n) :
    next P m n S j = cand P m S (order (fits P m n S) ⟨j, h⟩).val := dif_pos h

/-- The states after four depths. -/
def beam (x : Row) : ℕ → Row :=
  next P 8 128 (next P 8 128 (next P 8 128 (next P 1 16 fun _ => x)))

/-- The exponential of a fit of eight, less the greatest. -/
def scaled (f : Fin 8 → EReal) (j : Fin 8) : EReal :=
  Ideal.exp (f j - Finset.univ.fold max ⊥ f)

/-- The sum of eight states weighted by the softmax of their fits. -/
def blend (f : Fin 8 → EReal) (S : Fin 8 → Row) : Row := fun c =>
  ∑ j, S j c * Ideal.div (scaled f j) (∑ i, scaled f i)

/-- The result's row. -/
def answer (x : Row) : Row :=
  blend (fun j => fitness P (beam P x j.val)) fun j => beam P x j.val

/-! ## Fits are real -/

/-- A real number. -/
def IsReal (v : EReal) : Prop := ∃ y : ℝ, v = (y : EReal)

theorem IsReal.add {u v : EReal} (hu : IsReal u) (hv : IsReal v) : IsReal (u + v) := by
  obtain ⟨x, rfl⟩ := hu
  obtain ⟨y, rfl⟩ := hv
  exact ⟨x + y, (EReal.coe_add x y).symm⟩

theorem IsReal.mul {u v : EReal} (hu : IsReal u) (hv : IsReal v) : IsReal (u * v) := by
  obtain ⟨x, rfl⟩ := hu
  obtain ⟨y, rfl⟩ := hv
  exact ⟨x * y, (EReal.coe_mul x y).symm⟩

theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih =>
    rw [Finset.sum_insert ha]
    exact (h a).add ih

/-- A hyperbolic tangent is real, also at the infinities. -/
theorem isReal_tanh (v : EReal) : IsReal (Ideal.tanh v) := by
  induction v with
  | bot => exact ⟨-1, by rw [show Ideal.tanh ⊥ = -1 from rfl]; simp⟩
  | top => exact ⟨1, by rw [show Ideal.tanh ⊤ = 1 from rfl]; simp⟩
  | coe r => exact ⟨Real.tanh r, rfl⟩

/-- The fit's parameters are real. -/
def Par.Finite (P : Par) : Prop := (∀ c, IsReal (P.wf c)) ∧ IsReal P.bf

/-- With real fitness weights every fit is real, -/
theorem isReal_fits (hP : P.Finite) (m n : ℕ) (S : ℕ → Row) (p : Fin n) : IsReal (fits P m n S p) :=
  (IsReal.sum _ _ fun c => ((isReal_tanh _).add ⟨_, rfl⟩).mul (hP.1 c)).add hP.2

/-- and so is not minus infinity. -/
theorem fits_ne_bot (hP : P.Finite) (m n : ℕ) (S : ℕ → Row) (p : Fin n) : fits P m n S p ≠ ⊥ := by
  obtain ⟨y, e⟩ := isReal_fits P hP m n S p
  rw [e]
  exact EReal.coe_ne_bot y

end Cert.Beam

end
-- ==== Proof.Words.lean ====
module

public import Idealize.ShloMosaic.PureOps.Float

/-! # The words of a candidate's number

The number of a candidate is below 128; its state is the number modulo 8, picked by three bits, and its distance the
quotient by 8 (by 1 in the first depth). -/

@[expose] public section

namespace Cert.Beam

open Idealize.ShloMosaic

/-- The floor of a word by `d`, as the kernel computes it. -/
def wordQuot (d q : BitVec 32) : BitVec 32 :=
  Scalar.select
    (IntOp.andi
      (IntOp.cmpi .ne
        (IntOp.subi (BitVec.setWidth 32 (IntOp.cmpi .sgt q 0#32)) (BitVec.setWidth 32 (IntOp.cmpi .slt q 0#32)))
        (Scalar.subi (Scalar.extui (Scalar.cmpi .sgt d 0#32)) (Scalar.extui (Scalar.cmpi .slt d 0#32))))
      (IntOp.cmpi .ne (IntOp.remsi .vector q d) 0#32))
    (IntOp.subi (IntOp.divsi .vector q d) 1#32) (IntOp.divsi .vector q d)

/-- A word modulo 8, as the kernel computes it. -/
def wordRem (q : BitVec 32) : BitVec 32 :=
  Scalar.select
    (IntOp.andi
      (IntOp.xori
        (IntOp.cmpi .slt (IntOp.remsi .vector q (Scalar.select (Scalar.cmpi .eq 8#32 0#32) 1#32 8#32)) 0#32)
        (Scalar.cmpi .slt (Scalar.select (Scalar.cmpi .eq 8#32 0#32) 1#32 8#32) 0#32))
      (IntOp.cmpi .ne (IntOp.remsi .vector q (Scalar.select (Scalar.cmpi .eq 8#32 0#32) 1#32 8#32)) 0#32))
    (IntOp.addi (IntOp.remsi .vector q (Scalar.select (Scalar.cmpi .eq 8#32 0#32) 1#32 8#32))
      (Scalar.select (Scalar.cmpi .eq 8#32 0#32) 1#32 8#32))
    (IntOp.remsi .vector q (Scalar.select (Scalar.cmpi .eq 8#32 0#32) 1#32 8#32))

/-- Whether a word has the bit `b`. -/
def wordBit (q b : BitVec 32) : BitVec 1 := IntOp.cmpi .sgt (IntOp.andi q b) 0#32

/-- The word quotient by 8 is the numbers' quotient. -/
theorem wordQuot_eight : ∀ p : Fin 128, wordQuot 8#32 (BitVec.ofNat 32 p.val) = BitVec.ofNat 32 (p.val / 8) := by
  decide +kernel

/-- The word quotient by 1 changes nothing. -/
theorem wordQuot_one : ∀ p : Fin 16, wordQuot 1#32 (BitVec.ofNat 32 p.val) = BitVec.ofNat 32 p.val := by
  decide +kernel

/-- The word remainder by 8 is the numbers' remainder. -/
theorem wordRem_eight : ∀ p : Fin 128, wordRem (BitVec.ofNat 32 p.val) = BitVec.ofNat 32 (p.val % 8) := by
  decide +kernel

/-- The three bits pick the block of that number. -/
theorem wordBit_pick {α : Type} (t : ℕ → α) : ∀ s : Fin 8,
    Scalar.select (wordBit (BitVec.ofNat 32 s.val) 4#32)
      (Scalar.select (wordBit (BitVec.ofNat 32 s.val) 2#32)
        (Scalar.select (wordBit (BitVec.ofNat 32 s.val) 1#32) (t 7) (t 6))
        (Scalar.select (wordBit (BitVec.ofNat 32 s.val) 1#32) (t 5) (t 4)))
      (Scalar.select (wordBit (BitVec.ofNat 32 s.val) 2#32)
        (Scalar.select (wordBit (BitVec.ofNat 32 s.val) 1#32) (t 3) (t 2))
        (Scalar.select (wordBit (BitVec.ofNat 32 s.val) 1#32) (t 1) (t 0))) = t s.val := by
  intro s
  fin_cases s <;> rfl

/-- A small word is its number, read as signed. -/
theorem toInt_small : ∀ p : Fin 128, (BitVec.ofNat 32 p.val).toInt = p.val := by
  decide +kernel

end Cert.Beam
-- ==== Proof.Joins.lean ====
module

public import proofs.«01_k».proof.Proof.Model
public import Idealize.ShloMosaic.Lib.Pointwise
public import Idealize.ShloMosaic.Lib.Pipeline.Value
public import Idealize.ShloMosaic.Lib.Tactic

/-! # The pieces of the kernel's concatenations -/

@[expose] public section

noncomputable section

namespace Cert.Beam

open Idealize.ShloMosaic Idealize.SL.Sem Cert.KernelIdeal Cert.KernelIdeal.Gen

variable {F : FTy → Type} [FloatOps F] [Named F]

/-- Eight states, one under the other. -/
def stack (rows : ℕ → FVec F S64x1024 .f32) : FVec F S512x1024 .f32 :=
  concatenate S512x1024 0
    [⟨S64x1024, rows 0⟩, ⟨S64x1024, rows 1⟩, ⟨S64x1024, rows 2⟩, ⟨S64x1024, rows 3⟩, ⟨S64x1024, rows 4⟩, ⟨S64x1024, rows
    5⟩, ⟨S64x1024, rows 6⟩, ⟨S64x1024, rows 7⟩]
    concatenates_S64x1024_S64x1024_S64x1024_S64x1024_S64x1024_S64x1024_S64x1024_S64x1024_S512x1024_d0

/-- Eight fits, one beside the other. -/
def beside (mx : ℕ → FVec F S64x1 .f32) : FVec F S64x8 .f32 :=
  concatenate S64x8 1
    [⟨S64x1, mx 0⟩, ⟨S64x1, mx 1⟩, ⟨S64x1, mx 2⟩, ⟨S64x1, mx 3⟩, ⟨S64x1, mx 4⟩, ⟨S64x1, mx 5⟩, ⟨S64x1, mx 6⟩,
    ⟨S64x1, mx 7⟩]
    concatenates_S64x1_S64x1_S64x1_S64x1_S64x1_S64x1_S64x1_S64x1_S64x8_d1

/-- `n` equal pieces fill the axis. -/
theorem fills (s t : Shape) (n : ℕ) (f : Fin n → (s.Idx → F .f32)) (a : Fin t.rank)
    (h : Shape.Concatenates (List.replicate n s) t a) :
    Shape.Concatenates ((List.ofFn fun i : Fin n => (⟨s, f i⟩ : (s : Shape) × (s.Idx → F .f32))).map (·.1)) t a := by
  have e : (List.ofFn fun i : Fin n => (⟨s, f i⟩ : (s : Shape) × (s.Idx → F .f32))).map (·.1) = List.replicate n s := by
    rw [List.map_ofFn]
    exact List.ofFn_const n s
  rw [e]
  exact h

theorem cols16 : Shape.Concatenates (List.replicate 16 S64x1) S64x16 1 := by decide +kernel
theorem cols8 : Shape.Concatenates (List.replicate 8 S64x1) S64x8 1 := by decide +kernel
theorem cols128 : Shape.Concatenates (List.replicate 128 S64x1) S64x128 1 := by decide +kernel
theorem rows8 : Shape.Concatenates (List.replicate 8 S64x1024) S512x1024 0 := by decide +kernel

/-- The sixteen columns as a list over `Fin 16`. -/
theorem join1_eq (col : ℕ → FVec F S64x1 .f32) :
    join1 col = concatenate S64x16 1 (List.ofFn fun i : Fin 16 => ⟨S64x1, col i.val⟩) (fills S64x1 S64x16 16 _ 1 cols16) := by
  sl_kernel_rfl

/-- The eight columns as a list over `Fin 8`. -/
theorem beside_eq (col : ℕ → FVec F S64x1 .f32) :
    beside col = concatenate S64x8 1 (List.ofFn fun i : Fin 8 => ⟨S64x1, col i.val⟩) (fills S64x1 S64x8 8 _ 1 cols8) := by
  sl_kernel_rfl

/-- The 128 columns as a list over `Fin 128`. -/
theorem join8_eq (col : ℕ → ℕ → FVec F S64x1 .f32) :
    join8 col = concatenate S64x128 1 (List.ofFn fun i : Fin 128 => ⟨S64x1, col (i.val % 8) (i.val / 8)⟩)
      (fills S64x1 S64x128 128 _ 1 cols128) := by
  sl_kernel_rfl

/-- The eight states as a list over `Fin 8`. -/
theorem stack_eq (rows : ℕ → FVec F S64x1024 .f32) :
    stack rows = concatenate S512x1024 0 (List.ofFn fun i : Fin 8 => ⟨S64x1024, rows i.val⟩)
      (fills S64x1024 S512x1024 8 _ 0 rows8) := by
  sl_kernel_rfl

/-- Column `p` is piece `p`. -/
theorem column_at {n : ℕ} (f : Fin n → FVec F S64x1 .f32)
    (h : Shape.Concatenates ((List.ofFn fun i : Fin n => (⟨S64x1, f i⟩ : (s : Shape) × (s.Idx → F .f32))).map (·.1)) (W n) 1)
    (r : Fin 64) (p : Fin n) :
    concatenate (W n) 1 (List.ofFn fun i : Fin n => ⟨S64x1, f i⟩) h (ix2 r p) = f p (ix2 r (0 : Fin 1)) := by
  refine concatenate_ofFn_unit_apply (1 : Fin (W n).rank) f h rfl rfl (ix2 r p) p rfl (ix2 r (0 : Fin 1)) fun b hb => ?_
  have hb0 : b = (0 : Fin 2) := by
    match b, hb with
    | ⟨0, _⟩, _ => rfl
    | ⟨1, _⟩, hb => exact absurd rfl hb
  subst hb0
  rfl

/-- Sixteen columns side by side, read at a column. -/
theorem join1_at (col : ℕ → FVec F S64x1 .f32) (r : Fin 64) (p : Fin 16) :
    join1 col (ix2 r p) = col p.val (ix2 r (0 : Fin 1)) := by
  rw [join1_eq]
  exact column_at (fun i : Fin 16 => col i.val) _ r p

/-- Eight columns side by side, read at a column. -/
theorem beside_at (col : ℕ → FVec F S64x1 .f32) (r : Fin 64) (p : Fin 8) :
    beside col (ix2 r p) = col p.val (ix2 r (0 : Fin 1)) := by
  rw [beside_eq]
  exact column_at (fun i : Fin 8 => col i.val) _ r p

/-- A depth's 128 columns side by side, read at a column. -/
theorem join8_at (col : ℕ → ℕ → FVec F S64x1 .f32) (r : Fin 64) (p : Fin 128) :
    join8 col (ix2 r p) = col (p.val % 8) (p.val / 8) (ix2 r (0 : Fin 1)) := by
  rw [join8_eq]
  exact column_at (fun i : Fin 128 => col (i.val % 8) (i.val / 8)) _ r p

/-- Eight states one above another, read at a row. -/
theorem stack_at (rows : ℕ → FVec F S64x1024 .f32) (s : Fin 8) (r : Fin 64) (c : Fin 1024) :
    stack rows (ix2 (⟨64 * s.val + r.val, by omega⟩ : Fin 512) c) = rows s.val (ix2 r c) := by
  rw [stack_eq]
  refine concatenate_ofFn_apply (0 : Fin S512x1024.rank) (fun i : Fin 8 => rows i.val) _ rfl 64 rfl _ s ?_ (ix2 r c) ?_ fun b hb => ?_
  · show (64 * s.val + r.val) / 64 = s.val
    omega
  · show r.val = (64 * s.val + r.val) % 64
    omega
  · have hb1 : b = (1 : Fin 2) := by
      match b, hb with
      | ⟨1, _⟩, _ => rfl
      | ⟨0, _⟩, hb => exact absurd rfl hb
    subst hb1
    rfl

end Cert.Beam

end
-- ==== Proof.Round.lean ====
module

public import proofs.«01_k».proof.Proof.Model
public import proofs.«01_k».proof.Proof.Order
public import proofs.«01_k».proof.Proof.Consts
public import Idealize.ShloMosaic.Lib.Pointwise
public import Idealize.ShloMosaic.Lib.WordArith

@[expose] public section

noncomputable section

namespace Cert.Beam

open Idealize.ShloMosaic Idealize.SL.Sem Cert.KernelIdeal Cert.KernelIdeal.Gen

/-- The signed minimum of words without a sign, over a set: a lower bound, and the first value or one of them. -/
theorem fold_minsi {ι : Type} (g : ι → BitVec 32) (v : BitVec 32) (hv : v.toNat < 2 ^ 31) (hg : ∀ p, (g p).toNat < 2 ^ 31)
    (s : Finset ι) :
    (s.fold IntOp.minsi v g).toNat < 2 ^ 31 ∧ (∀ p ∈ s, (s.fold IntOp.minsi v g).toNat ≤ (g p).toNat) ∧
      (s.fold IntOp.minsi v g = v ∨ ∃ p, s.fold IntOp.minsi v g = g p) := by
  classical
  induction s using Finset.induction_on with
  | empty => exact ⟨by simpa using hv, by simp, .inl (by simp)⟩
  | insert a s ha ih =>
    obtain ⟨h1, h2, h3⟩ := ih
    rw [Finset.fold_insert ha]
    have e := WordArith.toNat_minsi_of_lt (g a) (s.fold IntOp.minsi v g) (hg a) h1
    refine ⟨by rw [e]; omega, fun p hp => ?_, ?_⟩
    · rw [e]
      rcases Finset.mem_insert.mp hp with rfl | hp
      · omega
      · have := h2 p hp
        omega
    · rcases Nat.le_total (g a).toNat (s.fold IntOp.minsi v g).toNat with h | h
      · exact .inr ⟨a, BitVec.eq_of_toNat_eq (by rw [e]; omega)⟩
      · have e2 : IntOp.minsi (g a) (s.fold IntOp.minsi v g) = s.fold IntOp.minsi v g := BitVec.eq_of_toNat_eq (by rw [e]; omega)
        rw [e2]
        exact h3

/-- The least place at which `P` holds, found by a fold of signed minima. -/
theorem fold_first {n : ℕ} (hn : n < 2 ^ 31) (P : Fin n → Prop) [DecidablePred P] (m : Fin n) (hm : P m)
    (hP : ∀ p, P p → m ≤ p) :
    (Finset.univ.fold IntOp.minsi 2147483647#32 fun p : Fin n => if P p then BitVec.ofNat 32 p.val else BitVec.ofNat 32 n)
      = BitVec.ofNat 32 m.val := by
  have hval : ∀ k : ℕ, k ≤ n → (BitVec.ofNat 32 k).toNat = k := fun k hk => by
    rw [BitVec.toNat_ofNat, Nat.mod_eq_of_lt (by omega)]
  have hg : ∀ p : Fin n, (if P p then BitVec.ofNat 32 p.val else BitVec.ofNat 32 n).toNat = if P p then p.val else n := fun p => by
    split
    · exact hval _ p.isLt.le
    · exact hval _ le_rfl
  obtain ⟨h1, h2, h3⟩ := fold_minsi (fun p : Fin n => if P p then BitVec.ofNat 32 p.val else BitVec.ofNat 32 n) 2147483647#32
    (by decide) (fun p => by rw [hg]; split <;> omega) Finset.univ
  have hle := h2 m (Finset.mem_univ _)
  rw [hg, if_pos hm] at hle
  refine BitVec.eq_of_toNat_eq ?_
  rw [hval _ m.isLt.le]
  refine le_antisymm hle ?_
  rcases h3 with h3 | ⟨p, h3⟩
  · rw [h3]
    have : m.val < n := m.isLt
    have e : (2147483647#32 : BitVec 32).toNat = 2147483647 := by decide
    rw [e]
    omega
  · rw [h3, hg]
    split
    · rename_i hp
      exact hP p hp
    · exact m.isLt.le

/-- The mask is minus infinity. -/
theorem mask_bot : Named.named (F := Ideal) κ "mask" (φ := .f32) 0xFF61B1E6#32 = ⊥ :=
  IdealRules.named_const.ideal_named_scalar _ _ _ _ rfl

variable {n : ℕ} (h : Sides n) (f : FVec Ideal (W n) .f32) (r : Fin 64) (g : Fin n → EReal) (hg : ∀ p, f (ix2 r p) = g p)
  (m : Fin n) (hle : ∀ p, g p ≤ g m)

include hg hle in
/-- A round's greatest fit. -/
theorem rowMax_at : rowMax h f (ix2 r (0 : Fin 1)) = g m := by
  pointwise [rowMax]
  rw [ofBits_bot]
  simp only [hg]
  refine le_antisymm (Finset.fold_max_le _ |>.mpr ⟨bot_le, fun p _ => hle p⟩) (Finset.le_fold_max _ |>.mpr (.inr ⟨m, Finset.mem_univ _, le_rfl⟩))

include hg hle in
/-- A round's first position of it. -/
theorem pick_at (hn : n < 2 ^ 31) (hfirst : ∀ p, g p = g m → m ≤ p) :
    pick h f (ix2 r (0 : Fin 1)) = BitVec.ofNat 32 m.val := by
  have e := rowMax_at h f r g hg m hle
  pointwise [pick]
  rw [e]
  simp only [hg]
  exact fold_first hn (fun p => g p = g m) m rfl hfirst

include hg hle in
/-- A round's row with that position masked. -/
theorem maskOut_at (hn : n < 2 ^ 31) (hfirst : ∀ p, g p = g m → m ≤ p) (p : Fin n) :
    maskOut h f (ix2 r p) = if p = m then ⊥ else g p := by
  have e := pick_at h f r g hg m hle hn hfirst
  pointwise [maskOut]
  rw [e, mask_bot, hg]
  by_cases hp : p = m
  · subst hp
    simp [Scalar.select, IntOp.cmpi]
  · have : BitVec.ofNat 32 p.val ≠ BitVec.ofNat 32 m.val := fun e' => hp (Fin.ext (by
      have := congrArg BitVec.toNat e'
      rw [BitVec.toNat_ofNat, BitVec.toNat_ofNat, Nat.mod_eq_of_lt (by omega), Nat.mod_eq_of_lt (by omega)] at this
      exact this))
    have hb : (BitVec.ofNat 32 p.val == BitVec.ofNat 32 m.val) = false := by simpa using this
    simp [Scalar.select, IntOp.cmpi, hp, hb]

omit hle in
include hg in
/-- The row after `j` rounds. -/
theorem left_at (hn : n < 2 ^ 31) (hf : ∀ p, g p ≠ ⊥) (j : ℕ) (hj : j ≤ n) (p : Fin n) :
    left h f j (ix2 r p) = remain g j p := by
  induction j generalizing p with
  | zero => rw [remain_zero]; exact hg p
  | succ j ih =>
    have ih' := fun p => ih (by omega) p
    have hmax : ∀ p, remain g j p ≤ remain g j (order g ⟨j, hj⟩) := fun p => by
      rw [remain_order g ⟨j, hj⟩]
      exact remain_le g ⟨j, hj⟩ p
    have hfirst : ∀ p, remain g j p = remain g j (order g ⟨j, hj⟩) → order g ⟨j, hj⟩ ≤ p := fun p e => by
      rw [remain_order g ⟨j, hj⟩] at e
      exact remain_first g hf ⟨j, hj⟩ p e
    exact (maskOut_at h (left h f j) r (remain g j) ih' (order g ⟨j, hj⟩) hmax hn hfirst p).trans
      (remain_succ g ⟨j, hj⟩ p).symm

omit hle in
include hg in
/-- Round `j` finds the fit that stands at place `j` of the order. -/
theorem rowMax_left (hn : n < 2 ^ 31) (hf : ∀ p, g p ≠ ⊥) (j : Fin n) :
    rowMax h (left h f j.val) (ix2 r (0 : Fin 1)) = g (order g j) := by
  rw [rowMax_at h (left h f j.val) r (remain g j.val) (left_at h f r g hg hn hf j.val j.isLt.le) (order g j) (fun p => by
    rw [remain_order]
    exact remain_le g j p), remain_order]

omit hle in
include hg in
/-- Round `j` picks the position that stands at place `j` of the order. -/
theorem pick_left (hn : n < 2 ^ 31) (hf : ∀ p, g p ≠ ⊥) (j : Fin n) :
    pick h (left h f j.val) (ix2 r (0 : Fin 1)) = BitVec.ofNat 32 (order g j).val :=
  pick_at h (left h f j.val) r (remain g j.val) (left_at h f r g hg hn hf j.val j.isLt.le) (order g j) (fun p => by
    rw [remain_order]
    exact remain_le g j p) hn (fun p e => by
    rw [remain_order] at e
    exact remain_first g hf j p e)

end Cert.Beam

end
-- ==== Proof.KRows.lean ====
module

public import proofs.«01_k».proof.Proof.Model
public import proofs.«01_k».proof.Proof.Consts
public import proofs.«01_k».proof.Proof.Spec
public import proofs.«01_k».proof.Proof.Words
public import proofs.«01_k».proof.Proof.Joins
public import proofs.«01_k».proof.Proof.Round
public import Idealize.ShloMosaic.Lib.Pointwise

/-! # The kernel's rows

Each depth of the kernel, read at one batch row, is the depth of the beam search on that row. -/

@[expose] public section

noncomputable section

namespace Cert.Beam

open Idealize.ShloMosaic Idealize.SL.Sem Cert.KernelIdeal Cert.KernelIdeal.Gen

/-- The parameters the kernel's blocks hold. -/
def par (w : FVec Ideal S1024x1024 .f32) (b : FVec Ideal S1x1024 .f32) (wf : FVec Ideal S1024x1 .f32) (bf : Ideal .f32) : Par where
  w k c := w (ix2 k c)
  b c := b (ix2 (0 : Fin 1) c)
  wf c := wf (ix2 c (0 : Fin 1))
  bf := bf

/-- The kernel's distance `k` is k tenths. -/
theorem off_eq : ∀ k < 16, off (F := Ideal) k = tenth k := by
  have named : ∀ (s : String) (v : BitVec 32) (x : EReal), κ s = some x →
      Named.named (F := Ideal) κ s (φ := .f32) v = x := fun s v x h => IdealRules.named_const.ideal_named_scalar _ _ _ _ h
  have t : ∀ (k : ℕ) (x : ℝ), x = (k : ℝ) / 10 → ((x : ℝ) : EReal) = tenth k := fun k x h => by rw [h]; rfl
  intro k hk
  match k, hk with
  | 0, _ => exact Ideal.ofBits_zero_f32.trans (by simp [tenth])
  | 1, _ => exact (named _ _ _ rfl).trans (t 1 _ (by norm_num))
  | 2, _ => exact (named _ _ _ rfl).trans (t 2 _ (by norm_num))
  | 3, _ => exact (named _ _ _ rfl).trans (t 3 _ (by norm_num))
  | 4, _ => exact (named _ _ _ rfl).trans (t 4 _ (by norm_num))
  | 5, _ => exact ofBits_half.trans (t 5 _ (by norm_num))
  | 6, _ => exact (named _ _ _ rfl).trans (t 6 _ (by norm_num))
  | 7, _ => exact (named _ _ _ rfl).trans (t 7 _ (by norm_num))
  | 8, _ => exact (named _ _ _ rfl).trans (t 8 _ (by norm_num))
  | 9, _ => exact (named _ _ _ rfl).trans (t 9 _ (by norm_num))
  | 10, _ => exact ofBits_one.trans (t 10 _ (by norm_num))
  | 11, _ => exact (named _ _ _ rfl).trans (t 11 _ (by norm_num))
  | 12, _ => exact (named _ _ _ rfl).trans (t 12 _ (by norm_num))
  | 13, _ => exact (named _ _ _ rfl).trans (t 13 _ (by norm_num))
  | 14, _ => exact (named _ _ _ rfl).trans (t 14 _ (by norm_num))
  | 15, _ => exact ofBits_three_halves.trans (t 15 _ (by norm_num))
  | k + 16, hk => omega

variable (w : FVec Ideal S1024x1024 .f32) (b : FVec Ideal S1x1024 .f32) (wf : FVec Ideal S1024x1 .f32) (bf : Ideal .f32)

/-- The first dense layer, read at an entry. -/
theorem dense1_at (x : FVec Ideal S64x1024 .f32) (r : Fin 64) (c : Fin 1024) :
    dense1 w b x (ix2 r c) = act (par w b wf bf) (fun k => x (ix2 r k)) c := by
  pointwise [dense1]
  rfl

/-- A fit of the first depth. -/
theorem fit1_at (t : FVec Ideal S64x1024 .f32) (k : ℕ) (hk : k < 16) (r : Fin 64) :
    fit1 wf bf t k (ix2 r (0 : Fin 1)) = fitness (par w b wf bf) fun c => t (ix2 r c) + tenth k := by
  pointwise [fit1]
  rw [off_eq k hk]
  rfl

/-- State `s` of a later depth's dense layer. -/
theorem dense8_block (rows : ℕ → FVec Ideal S64x1024 .f32) (s : ℕ) (hs : s < 8) (r : Fin 64) (c : Fin 1024) :
    block (dense8 w b rows) s (ix2 r c) = act (par w b wf bf) (fun k => rows s (ix2 r k)) c := by
  have e : dense8 w b rows = tanh (addf (matmul dot_S512x1024_S1024x1024_S512x1024_1_0_0_1_n_n none (stack rows) w
      (constant S512x1024 .f32 0x00000000#32))
    (broadcastTo S512x1024 (shapeCast S1x1024 b shapeCasts_S1x1024_S1x1024) broadcasts_S1x1024_S512x1024)) := rfl
  have hst : ∀ k : Fin 1024, stack rows (ix2 (⟨64 * (s % 8) + r.val, by omega⟩ : Fin 512) k) = rows s (ix2 r k) := fun k => by
    have := stack_at rows ⟨s, hs⟩ r k
    rw [← this]
    congr 2
    exact Fin.ext (by show 64 * (s % 8) + r.val = 64 * s + r.val; omega)
  rw [e]
  pointwise [block]
  simp only [hst]
  rfl

/-- A fit of a later depth. -/
theorem fitBlock_at (t : FVec Ideal S512x1024 .f32) (s k : ℕ) (hk : k < 16) (r : Fin 64) :
    fitBlock wf bf t s k (ix2 r (0 : Fin 1)) = fitness (par w b wf bf) fun c => block t s (ix2 r c) + tenth k := by
  pointwise [fitBlock, fit8, block]
  rw [off_eq k hk]
  rfl

/-- A tenth times `k`. -/
theorem tenth_mul (k : ℕ) : Named.named (F := Ideal) κ "c1" (φ := .f32) 0x3DCCCCCD#32 * (((k : ℤ) : ℝ) : EReal) = tenth k := by
  rw [show Named.named (F := Ideal) κ "c1" (φ := .f32) 0x3DCCCCCD#32 = ((1 / 10 : ℝ) : EReal) from
    IdealRules.named_const.ideal_named_scalar _ _ _ _ rfl, ← EReal.coe_mul]
  unfold tenth
  congr 1
  push_cast
  ring

/-- The distance that a round adds to the state it chose. -/
theorem shift_at (d : BitVec 32) (q : IVec S64x1 32) (r : Fin 64) (c : Fin 1024) (k : ℕ) (hk : k < 128)
    (e : wordQuot d (q (ix2 r (0 : Fin 1))) = BitVec.ofNat 32 k) : shift (F := Ideal) d q (ix2 r c) = tenth k := by
  have hq : quot d q (ix2 r (0 : Fin 1)) = BitVec.ofNat 32 k := by
    rw [← e]
    pointwise [quot]
    rfl
  pointwise [shift]
  rw [hq]
  exact (congrArg (fun z : ℤ => Named.named (F := Ideal) κ "c1" (φ := .f32) 0x3DCCCCCD#32 * ((z : ℝ) : EReal))
    (toInt_small ⟨k, hk⟩)).trans (tenth_mul k)

/-- The chosen state's number. -/
theorem rem8_at (q : IVec S64x1 32) (r : Fin 64) (p : Fin 128) (e : q (ix2 r (0 : Fin 1)) = BitVec.ofNat 32 p.val) :
    rem8 q (ix2 r (0 : Fin 1)) = BitVec.ofNat 32 (p.val % 8) := by
  rw [← wordRem_eight, ← e]
  pointwise [rem8]
  rfl

/-- Three bits choose among eight states. -/
theorem choose_at (t : ℕ → FVec Ideal S64x1024 .f32) (q : IVec S64x1 32) (r : Fin 64) (c : Fin 1024) (s : Fin 8)
    (e : q (ix2 r (0 : Fin 1)) = BitVec.ofNat 32 s.val) : choose t q (ix2 r c) = t s.val (ix2 r c) := by
  rw [← wordBit_pick (fun i => t i (ix2 r c)) s, ← e]
  pointwise [choose, bit]
  rfl

variable (hP : (par w b wf bf).Finite)

/-- Depth one: the fits. -/
theorem fits1_at (x : FVec Ideal S64x1024 .f32) (r : Fin 64) (p : Fin 16) :
    fits1 w b wf bf x (ix2 r p) = fits (par w b wf bf) 1 16 (fun _ k => x (ix2 r k)) p := by
  unfold fits1
  rw [join1_at, fit1_at w b wf bf _ p.val p.isLt]
  simp only [dense1_at w b wf bf]
  unfold fits cand
  rw [Nat.div_one]

include hP in
/-- Depth one: the states. -/
theorem next1_at (x : FVec Ideal S64x1024 .f32) (j : ℕ) (hj : j < 8) (r : Fin 64) (c : Fin 1024) :
    next1 w b wf bf x j (ix2 r c) = next (par w b wf bf) 1 16 (fun _ k => x (ix2 r k)) j c := by
  have hpick := pick_left sides16 (fits1 w b wf bf x) r _ (fits1_at w b wf bf x r) (by decide)
    (fits_ne_bot _ hP 1 16 _) ⟨j, by omega⟩
  rw [next_of_lt _ _ _ _ (show j < 16 by omega)]
  unfold next1
  pointwise
  rw [dense1_at w b wf bf, shift_at 1#32 _ r c _ (Nat.lt_trans (Fin.isLt _) (by decide))
    ((congrArg (wordQuot 1#32) hpick).trans (wordQuot_one _))]
  unfold cand
  rw [Nat.div_one]

variable (rows : ℕ → FVec Ideal S64x1024 .f32) (r : Fin 64) (S : ℕ → Row)
  (hS : ∀ j < 8, ∀ c, rows j (ix2 r c) = S j c)

include hS in
/-- A later depth: the fits. -/
theorem fits8_at (p : Fin 128) : fits8 w b wf bf rows (ix2 r p) = fits (par w b wf bf) 8 128 S p := by
  have hm : p.val % 8 < 8 := Nat.mod_lt _ (by decide)
  unfold fits8
  rw [join8_at, fitBlock_at w b wf bf _ _ _ (by omega)]
  simp only [dense8_block w b wf bf rows _ hm, hS _ hm]
  rfl

include hS hP in
/-- A later depth: the states. -/
theorem next8_at (j : ℕ) (hj : j < 8) (c : Fin 1024) :
    next8 w b wf bf rows j (ix2 r c) = next (par w b wf bf) 8 128 S j c := by
  have hpick := pick_left sides128 (fits8 w b wf bf rows) r _ (fits8_at w b wf bf rows r S hS) (by decide)
    (fits_ne_bot _ hP 8 128 _) ⟨j, by omega⟩
  rw [next_of_lt _ _ _ _ (show j < 128 by omega)]
  generalize order (fits (par w b wf bf) 8 128 S) ⟨j, by omega⟩ = p at hpick
  have hm : p.val % 8 < 8 := Nat.mod_lt _ (by decide)
  unfold next8
  pointwise
  rw [choose_at _ _ r c ⟨p.val % 8, hm⟩ (rem8_at _ r p hpick), dense8_block w b wf bf rows _ hm,
    shift_at 8#32 _ r c (p.val / 8) (by omega) ((congrArg (wordQuot 8#32) hpick).trans (wordQuot_eight _))]
  simp only [hS _ hm]
  rfl

include hS hP in
/-- A later depth: the fits of the states. -/
theorem best8_at (j : Fin 8) :
    best8 w b wf bf rows j.val (ix2 r (0 : Fin 1)) = fitness (par w b wf bf) (next (par w b wf bf) 8 128 S j.val) := by
  unfold best8
  rw [next_of_lt _ _ _ _ (show j.val < 128 by omega)]
  exact rowMax_left sides128 (fits8 w b wf bf rows) r _ (fits8_at w b wf bf rows r S hS) (by decide)
    (fits_ne_bot _ hP 8 128 _) ⟨j.val, by omega⟩

/-- The exponential of a fit less the greatest. -/
theorem expo_at (mx : ℕ → FVec Ideal S64x1 .f32) (r : Fin 64) (f : Fin 8 → EReal)
    (hf : ∀ j : Fin 8, mx j.val (ix2 r (0 : Fin 1)) = f j) (j : Fin 8) : expo mx (ix2 r j) = scaled f j := by
  have e : expo mx = exp (subf (beside mx) (broadcastTo S64x8 (shapeCast S64x1
    (maximumf (broadcast S64 (Scalar.ofBits .f32 0xFF800000#32))
      (multiReduction .maximumf [1] S64 (beside mx) 0xFF800000#32 reduces_S64x8_S64 (.inl rfl) rfl)) shapeCasts_S64_S64x1)
    broadcasts_S64x1_S64x8)) := rfl
  rw [e]
  pointwise
  simp only [beside_at, hf, ofBits_bot, bot_le, max_eq_right]
  rfl

/-- The softmax of the fits. -/
theorem weights_at (mx : ℕ → FVec Ideal S64x1 .f32) (r : Fin 64) (f : Fin 8 → EReal)
    (hf : ∀ j : Fin 8, mx j.val (ix2 r (0 : Fin 1)) = f j) (j : Fin 8) :
    weights mx (ix2 r j) = Ideal.div (scaled f j) (∑ i, scaled f i) := by
  pointwise [weights]
  simp only [expo_at mx r f hf]

/-- A state times its weight. -/
theorem part_at (wt : FVec Ideal S64x8 .f32) (rows : ℕ → FVec Ideal S64x1024 .f32) (j : Fin 8) (r : Fin 64) (c : Fin 1024) :
    part wt rows j.val (ix2 r c) = rows j.val (ix2 r c) * wt (ix2 r j) := by
  pointwise [part]
  congr 3
  exact Fin.ext (Nat.mod_eq_of_lt j.isLt)

/-- The sum of the eight. -/
theorem total_at (p : ℕ → FVec Ideal S64x1024 .f32) (r : Fin 64) (c : Fin 1024) :
    total p (ix2 r c) = ∑ j : Fin 8, p j.val (ix2 r c) := by
  pointwise [total]
  rw [Fin.sum_univ_eight]
  simp only [add_assoc]
  rfl

include hP in
/-- The kernel's result, row by row. -/
theorem kernelOut_at (x : FVec Ideal S64x1024 .f32) (r : Fin 64) (c : Fin 1024) :
    kernelOut x w b wf bf (ix2 r c) = answer (par w b wf bf) (fun k => x (ix2 r k)) c := by
  have h1 := fun j hj c => next1_at w b wf bf hP x j hj r c
  have h2 := next8_at w b wf bf hP _ r _ h1
  have h3 := next8_at w b wf bf hP _ r _ h2
  have h4 := next8_at w b wf bf hP _ r _ h3
  have hb := best8_at w b wf bf hP _ r _ h3
  unfold kernelOut answer blend
  rw [total_at]
  refine Finset.sum_congr rfl fun j _ => ?_
  rw [part_at, weights_at _ r _ hb, h4 j.val j.isLt]
  rfl

end Cert.Beam

end
-- ==== Proof.RModel.lean ====
module

public import proofs.«01_k».proof.Proof.Gen.ReferenceIdeal.Run
public import Idealize.ShloMosaic.Lib.Tactic

/-! # The reference as one function of its arguments

The reference's text, written once for every depth: candidates, fits, the places of the greatest eight, the states there. -/

@[expose] public section

noncomputable section

namespace Cert.Beam.Ref

open Idealize.ShloMosaic Idealize.ShloMosaic.TcCoe Idealize.SL.Sem Idealize.ShloMosaic.StableHlo Cert.ReferenceIdeal
  Cert.ReferenceIdeal.Gen Cert.ReferenceIdeal.Value

variable {F : FTy → Type} [FloatOps F]

/-- The sixteen distances. -/
def tenths : FVec F S16x1x1x1 .f32 :=
  Host.divf (shapeCast _ (sitofp .f32 (iotaInDim S16 32 0)) shapeCasts_S16_S16x1x1x1)
    (broadcastInDim S16x1x1x1 ![] bcast_S_S16x1x1x1 (constant S_ .f32 0x41200000#32))

/-- The first depth's candidates. -/
def cands1 (w : FVec F S1024x1024 .f32) (b : FVec F S1024 .f32) (x : FVec F S64x1024 .f32) : FVec F S16x64x1024 .f32 :=
  shapeCast _ (addf (broadcastInDim S16x1x64x1024 ![0, 1, 2, 3] bcast_S1x1x64x1024_S16x1x64x1024_0_1_2_3
      (broadcastInDim S1x1x64x1024 ![1, 2, 3] bcast_S1x64x1024_S1x1x64x1024_1_2_3
        (Host.tanh (addf (Host.dotGeneral dot_S1x64x1024_S1024x1024_S1x64x1024_2_0_01_1_n_n none
            (broadcastInDim S1x64x1024 ![1, 2] bcast_S64x1024_S1x64x1024_1_2 x) w)
          (broadcastInDim S1x64x1024 ![0, 1, 2] bcast_S1x1x1024_S1x64x1024_0_1_2
            (broadcastInDim S1x1x1024 ![2] bcast_S1024_S1x1x1024_2 b))))))
    (broadcastInDim S16x1x64x1024 ![0, 1, 2, 3] bcast_S16x1x1x1_S16x1x64x1024_0_1_2_3 tenths))
    shapeCasts_S16x1x64x1024_S16x64x1024

/-- A later depth's candidates. -/
def cands8 (w : FVec F S1024x1024 .f32) (b : FVec F S1024 .f32) (x : FVec F S8x64x1024 .f32) : FVec F S128x64x1024 .f32 :=
  shapeCast _ (addf (broadcastInDim S16x8x64x1024 ![0, 1, 2, 3] bcast_S1x8x64x1024_S16x8x64x1024_0_1_2_3
      (broadcastInDim S1x8x64x1024 ![1, 2, 3] bcast_S8x64x1024_S1x8x64x1024_1_2_3
        (Host.tanh (addf (Host.dotGeneral dot_S8x64x1024_S1024x1024_S8x64x1024_2_0_01_1_n_n none x w)
          (broadcastInDim S8x64x1024 ![0, 1, 2] bcast_S1x1x1024_S8x64x1024_0_1_2
            (broadcastInDim S1x1x1024 ![2] bcast_S1024_S1x1x1024_2 b))))))
    (broadcastInDim S16x8x64x1024 ![0, 1, 2, 3] bcast_S16x1x1x1_S16x8x64x1024_0_1_2_3 tenths))
    shapeCasts_S16x8x64x1024_S128x64x1024

/-- The first depth's fits. -/
def fits1 (wf : FVec F S1024x1 .f32) (bf : FVec F S1 .f32) (x : FVec F S16x64x1024 .f32) : FVec F S64x16 .f32 :=
  transpose S64x16 [1, 0] (Host.divf (shapeCast _ (addf
      (Host.dotGeneral dot_S16x64x1024_S1024x1_S16x64x1_2_0_01_1_n_n none x wf)
      (broadcastInDim S16x64x1 ![0, 1, 2] bcast_S1x1x1_S16x64x1_0_1_2 (broadcastInDim S1x1x1 ![2] bcast_S1_S1x1x1_2 bf)))
      shapeCasts_S16x64x1_S16x64) (broadcastInDim S16x64 ![] bcast_S_S16x64 (constant S_ .f32 0x3F800000#32)))
    transposes_S16x64_S64x16_1_0

/-- A later depth's fits. -/
def fits8 (wf : FVec F S1024x1 .f32) (bf : FVec F S1 .f32) (x : FVec F S128x64x1024 .f32) : FVec F S64x128 .f32 :=
  transpose S64x128 [1, 0] (Host.divf (shapeCast _ (addf
      (Host.dotGeneral dot_S128x64x1024_S1024x1_S128x64x1_2_0_01_1_n_n none x wf)
      (broadcastInDim S128x64x1 ![0, 1, 2] bcast_S1x1x1_S128x64x1_0_1_2 (broadcastInDim S1x1x1 ![2] bcast_S1_S1x1x1_2 bf)))
      shapeCasts_S128x64x1_S128x64) (broadcastInDim S128x64 ![] bcast_S_S128x64 (constant S_ .f32 0x3F800000#32)))
    transposes_S128x64_S64x128_1_0

/-- Places, one per state and row, along the row. -/
def along (t : IVec S64x8 32) : IVec S8x64x1024 32 :=
  broadcastInDim S8x64x1024 ![0, 1, 2] bcast_S8x64x1_S8x64x1024_0_1_2 (broadcastInDim S8x64x1 ![0, 1] bcast_S8x64_S8x64x1_0_1
    (transpose S8x64 [1, 0] t transposes_S64x8_S8x64_1_0))

/-- The places of the eight greatest, first depth. -/
def top1 (f : FVec F S64x16 .f32) : IVec S8x64x1024 32 :=
  along (Host.topK S64x8 1 (FloatOps.cmpfTotal .gt) f sliceFits_S64x16_S64x8).2

/-- The places of the eight greatest, a later depth. -/
def top8 (f : FVec F S64x128 .f32) : IVec S8x64x1024 32 :=
  along (Host.topK S64x8 1 (FloatOps.cmpfTotal .gt) f sliceFits_S64x128_S64x8).2

/-- Places counted from the end made places from the start. -/
def start (n : BitVec 32) (q : IVec S8x64x1024 32) : IVec S8x64x1024x1 32 :=
  shapeCast _ (select (cmpi .slt q (broadcastInDim S8x64x1024 ![] bcast_S_S8x64x1024 (constantI S_ 32 0#32)))
    (addi q (broadcastInDim S8x64x1024 ![] bcast_S_S8x64x1024 (constantI S_ 32 n))) q) shapeCasts_S8x64x1024_S8x64x1024x1

/-- The entries at places in range, and a filler elsewhere. -/
def inRange (last : BitVec 32) (q : IVec S8x64x1024x1 32) (g : FVec F S8x64x1024 .f32) : FVec F S8x64x1024 .f32 :=
  select (Host.reduce IntOp.andi (andi
      (cmpi .sge q (broadcastInDim S8x64x1024x1 ![] bcast_S_S8x64x1024x1 (constantI S_ 32 0#32)))
      (cmpi .sle q (broadcastInDim S8x64x1024x1 ![0, 1, 2, 3] bcast_S1x1x1x1_S8x64x1024x1_0_1_2_3
        (broadcastInDim S1x1x1x1 ![3] bcast_S1_S1x1x1x1_3 (constantI S1 32 last)))))
      (constantI S_ 1 1#1) reducesTo_S8x64x1024x1_S8x64x1024_d3 h_S_) g
    (broadcastInDim S8x64x1024 ![] bcast_S_S8x64x1024 (constant S_ .f32 0x7FC00000#32))

/-- The first depth's states. -/
def keep1 (x : FVec F S16x64x1024 .f32) (f : FVec F S64x16 .f32) : FVec F S8x64x1024 .f32 :=
  inRange 15#32 (start 16#32 (top1 f))
    (Host.gather gather_S16x64x1024_S8x64x1024x1_S8x64x1024_n_0_12_12_0_3_111 x (start 16#32 (top1 f)))

/-- A later depth's states. -/
def keep8 (x : FVec F S128x64x1024 .f32) (f : FVec F S64x128 .f32) : FVec F S8x64x1024 .f32 :=
  inRange 127#32 (start 128#32 (top8 f))
    (Host.gather gather_S128x64x1024_S8x64x1024x1_S8x64x1024_n_0_12_12_0_3_111 x (start 128#32 (top8 f)))

/-- The first depth. -/
def next1 (w : FVec F S1024x1024 .f32) (b : FVec F S1024 .f32) (wf : FVec F S1024x1 .f32) (bf : FVec F S1 .f32)
    (x : FVec F S64x1024 .f32) : FVec F S8x64x1024 .f32 :=
  keep1 (cands1 w b x) (fits1 wf bf (cands1 w b x))

/-- A later depth. -/
def next8 (w : FVec F S1024x1024 .f32) (b : FVec F S1024 .f32) (wf : FVec F S1024x1 .f32) (bf : FVec F S1 .f32)
    (x : FVec F S8x64x1024 .f32) : FVec F S8x64x1024 .f32 :=
  keep8 (cands8 w b x) (fits8 wf bf (cands8 w b x))

/-- The fits of eight states. -/
def fit (wf : FVec F S1024x1 .f32) (bf : FVec F S1 .f32) (x : FVec F S8x64x1024 .f32) : FVec F S8x64x1 .f32 :=
  addf (Host.dotGeneral dot_S8x64x1024_S1024x1_S8x64x1_2_0_01_1_n_n none x wf)
    (broadcastInDim S8x64x1 ![0, 1, 2] bcast_S1x1x1_S8x64x1_0_1_2 (broadcastInDim S1x1x1 ![2] bcast_S1_S1x1x1_2 bf))

/-- Their exponentials, less the greatest. -/
def expo (f : FVec F S8x64x1 .f32) : FVec F S8x64x1 .f32 :=
  Host.exp (subf f (broadcastInDim S8x64x1 ![0, 1, 2] bcast_S1x64x1_S8x64x1_0_1_2
    (broadcastInDim S1x64x1 ![1, 2] bcast_S64x1_S1x64x1_1_2 (maximumf
      (broadcastInDim S64x1 ![] bcast_S_S64x1 (constant S_ .f32 0xFF800000#32))
      (Host.reduce FloatOps.maximumf f (constant S_ .f32 0xFF800000#32) reducesTo_S8x64x1_S64x1_d0 h_S_)))))

/-- The states weighted by their softmax and summed. -/
def blend (f : FVec F S8x64x1 .f32) (x : FVec F S8x64x1024 .f32) : FVec F S64x1024 .f32 :=
  Host.reduceAdd (mulf x (broadcastInDim S8x64x1024 ![0, 1, 2] bcast_S8x64x1_S8x64x1024_0_1_2 (Host.divf (expo f)
    (broadcastInDim S8x64x1 ![0, 1, 2] bcast_S1x64x1_S8x64x1_0_1_2 (broadcastInDim S1x64x1 ![1, 2] bcast_S64x1_S1x64x1_1_2
      (Host.reduceAdd (expo f) (constant S_ .f32 0x00000000#32) reducesTo_S8x64x1_S64x1_d0 h_S_))))))
    (constant S_ .f32 0x00000000#32) reducesTo_S8x64x1024_S64x1024_d0 h_S_

variable (V0 : Valuation τ sig (Elt F))

/-- The states after four depths. -/
theorem v104_eq : res_main_v104 V0 =
    (let n8 := next8 (V0 (Proc.devRef .tc main_arg1)) (V0 (Proc.devRef .tc main_arg2)) (V0 (Proc.devRef .tc main_arg3))
        (V0 (Proc.devRef .tc main_arg4))
     n8 (n8 (n8 (next1 (V0 (Proc.devRef .tc main_arg1)) (V0 (Proc.devRef .tc main_arg2)) (V0 (Proc.devRef .tc main_arg3))
        (V0 (Proc.devRef .tc main_arg4)) (V0 (Proc.devRef .tc main_arg0)))))) := by
  sl_kernel_rfl

/-- Their fits. -/
theorem v108_eq : res_main_v108 V0 = fit (V0 (Proc.devRef .tc main_arg3)) (V0 (Proc.devRef .tc main_arg4)) (res_main_v104 V0) := rfl
/-- The exponentials of the fits. -/
theorem v115_eq : res_main_v115 V0 = expo (res_main_v108 V0) := rfl

end Cert.Beam.Ref

end
-- ==== Proof.RRows.lean ====
module

public import proofs.«01_k».proof.Proof.Words
public import proofs.«01_k».proof.Proof.RModel
public import proofs.«01_k».proof.Proof.Spec
public import proofs.«01_k».proof.Proof.Consts
public import Idealize.ShloMosaic.Lib.Pointwise

/-! # The reference's rows -/

@[expose] public section

noncomputable section

namespace Cert.Beam.Ref

open Idealize.ShloMosaic Idealize.ShloMosaic.TcCoe Idealize.SL.Sem Idealize.ShloMosaic.StableHlo Cert.ReferenceIdeal
  Cert.ReferenceIdeal.Gen Cert.ReferenceIdeal.Value

/-- The parameters the reference's arguments hold. -/
def par (w : FVec Ideal S1024x1024 .f32) (b : FVec Ideal S1024 .f32) (wf : FVec Ideal S1024x1 .f32) (bf : FVec Ideal S1 .f32) : Par where
  w k c := w (ix2 k c)
  b c := b (ix1 c)
  wf c := wf (ix2 c (0 : Fin 1))
  bf := bf (ix1 (0 : Fin 1))

variable (w : FVec Ideal S1024x1024 .f32) (b : FVec Ideal S1024 .f32) (wf : FVec Ideal S1024x1 .f32) (bf : FVec Ideal S1 .f32)

/-- Distance `k` is k tenths. -/
theorem tenths_at (k : Fin 16) : tenths (F := Ideal) (ix4 k (0 : Fin 1) (0 : Fin 1) (0 : Fin 1)) = tenth k.val := by
  pointwise [tenths]
  have e : FloatOps.sitofp (F := Ideal) .f32 (BitVec.ofNat 32 k.val) = (((k.val : ℕ) : ℝ) : EReal) :=
    (congrArg (fun z : ℤ => ((z : ℝ) : EReal)) (toInt_small ⟨k.val, by omega⟩)).trans (by simp)
  rw [e, ofBits_ten, Ideal.div_coe (by norm_num), ← EReal.coe_mul, mul_one_div]
  rfl

/-- Dividing by the temperature, which is one, changes nothing. -/
theorem div_one (v : EReal) : Ideal.div v 1 = v := by
  unfold Ideal.div
  rw [if_neg one_ne_zero]
  simp

/-- The first depth's candidate. -/
theorem cands1_at (x : FVec Ideal S64x1024 .f32) (p : Fin 16) (r : Fin 64) (c : Fin 1024) :
    cands1 w b x (ix3 p r c) = cand (par w b wf bf) 1 (fun _ k => x (ix2 r k)) p.val c := by
  pointwise [cands1]
  rw [tenths_at]
  unfold cand
  rw [Nat.div_one]
  rfl

/-- A later depth's candidate, of the states `S`. -/
theorem cands8_at (x : FVec Ideal S8x64x1024 .f32) (r : Fin 64) (S : ℕ → Row) (hS : ∀ (j : Fin 8) c, x (ix3 j r c) = S j.val c)
    (p : Fin 128) (c : Fin 1024) : cands8 w b x (ix3 p r c) = cand (par w b wf bf) 8 S p.val c := by
  pointwise [cands8]
  rw [tenths_at]
  simp only [hS]
  rfl

/-- The first depth's fit. -/
theorem fits1_at (x : FVec Ideal S16x64x1024 .f32) (p : Fin 16) (r : Fin 64) :
    fits1 wf bf x (ix2 r p) = fitness (par w b wf bf) fun c => x (ix3 p r c) := by
  pointwise [fits1]
  rw [div_one]
  rfl

/-- A later depth's fit. -/
theorem fits8_at (x : FVec Ideal S128x64x1024 .f32) (p : Fin 128) (r : Fin 64) :
    fits8 wf bf x (ix2 r p) = fitness (par w b wf bf) fun c => x (ix3 p r c) := by
  pointwise [fits8]
  rw [div_one]
  rfl

/-- The places, turned and repeated along the entries of a state. -/
theorem along_at (q : IVec S64x8 32) (j : Fin 8) (r : Fin 64) (c : Fin 1024) : along q (ix3 j r c) = q (ix2 r j) := by
  pointwise [along]

/-- No place is negative, -/
theorem word_start : ∀ p : Fin 128, IntOp.cmpi .slt (BitVec.ofNat 32 p.val) 0#32 = 0#1 := by decide +kernel

/-- so the step for negative places leaves a place as it is. -/
theorem start_at (n : BitVec 32) (q : IVec S8x64x1024 32) (j : Fin 8) (r : Fin 64) (c : Fin 1024) (p : Fin 128)
    (e : q (ix3 j r c) = BitVec.ofNat 32 p.val) : start n q (ix4 j r c (0 : Fin 1)) = BitVec.ofNat 32 p.val := by
  pointwise [start]
  rw [e, word_start]
  rfl

/-- Where the place is in range, the state that was read is kept. -/
theorem inRange_at (last : BitVec 32) (q : IVec S8x64x1024x1 32) (g : FVec Ideal S8x64x1024 .f32) (j : Fin 8) (r : Fin 64)
    (c : Fin 1024) (h : IntOp.andi (IntOp.cmpi .sge (q (ix4 j r c (0 : Fin 1))) 0#32)
      (IntOp.cmpi .sle (q (ix4 j r c (0 : Fin 1))) last) = 1#1) :
    inRange last q g (ix3 j r c) = g (ix3 j r c) := by
  pointwise [inRange]
  have hu : (Finset.univ : Finset (Fin 1)) = {0} := rfl
  rw [hu, Finset.fold_singleton, h]
  rfl

/-- A place below 16 is in range. -/
theorem word_range16 : ∀ p : Fin 16, IntOp.andi (IntOp.cmpi .sge (BitVec.ofNat 32 p.val) 0#32)
    (IntOp.cmpi .sle (BitVec.ofNat 32 p.val) 15#32) = 1#1 := by decide +kernel

/-- A place below 128 is in range. -/
theorem word_range128 : ∀ p : Fin 128, IntOp.andi (IntOp.cmpi .sge (BitVec.ofNat 32 p.val) 0#32)
    (IntOp.cmpi .sle (BitVec.ofNat 32 p.val) 127#32) = 1#1 := by decide +kernel

/-- The comparison that `top_k` sorts by. -/
theorem greater (x y : EReal) : (FloatOps.cmpfTotal (F := Ideal) (φ := .f32) .gt x y == 1#1) = decide (y < x) := by
  show (Ideal.cmp .ogt x y == 1#1) = decide (y < x)
  by_cases h : y < x
  · simp [Ideal.cmp, h]
  · simp [Ideal.cmp, h]

/-- The places of the greatest: the first of the order. -/
theorem topK_at {n : ℕ} (f : FVec Ideal (⟨2, ![64, n]⟩ : Shape) .f32)
    (h : (⟨2, ![64, n]⟩ : Shape).Slices (fun _ => 0) S64x8) (hn : 8 ≤ n) (r : Fin 64) (j : Fin 8) :
    (Host.topK S64x8 1 (FloatOps.cmpfTotal .gt) f h).2 (ix2 r j)
      = BitVec.ofNat 32 (order (fun p => f (ix2 r p)) ⟨j.val, by omega⟩).val := by
  have hs : ∀ g : IVec (⟨2, ![64, n]⟩ : Shape) 32,
      extractStridedSlice S64x8 (fun _ => 0) g h (ix2 r j) = g (ix2 r (⟨j.val, by omega⟩ : Fin n)) := fun g => by
    refine congrArg g (funext fun a => Fin.ext ?_)
    match a with
    | ⟨0, _⟩ => exact Nat.zero_add _
    | ⟨1, _⟩ => exact Nat.zero_add _
  have ha : ∀ q k : Fin n, (ix2 r q : (⟨2, ![64, n]⟩ : Shape).Idx).along (1 : Fin 2) k = ix2 r k := fun q k => by
    funext a
    match a with
    | ⟨0, _⟩ => rfl
    | ⟨1, _⟩ => rfl
  have hb : ∀ q : Fin n, (fun k k' : Fin n => FloatOps.cmpfTotal (F := Ideal) (φ := .f32) .gt
      (f ((ix2 r q : (⟨2, ![64, n]⟩ : Shape).Idx).along (1 : Fin 2) k))
      (f ((ix2 r q : (⟨2, ![64, n]⟩ : Shape).Idx).along (1 : Fin 2) k')) == 1#1)
      = fun k k' => decide (f (ix2 r k') < f (ix2 r k)) := fun q => by
    funext k k'
    rw [greater, ha, ha]
  unfold Host.topK
  dsimp only
  refine (hs _).trans ?_
  exact congrArg (fun g : Fin n → Fin n → Bool => BitVec.ofNat 32 (sortedFrom g ⟨j.val, by omega⟩).val) (hb ⟨j.val, by omega⟩)

/-- The gather's dimension numbers, `n` states. -/
abbrev dims (n : ℕ) (wf : GatherDims.WF ⟨3, ![n, 64, 1024]⟩ S8x64x1024x1 S8x64x1024 [] [0] [1, 2] [0] [1, 2] 3 ![1, 1, 1]) :
    GatherDims ⟨3, ![n, 64, 1024]⟩ S8x64x1024x1 S8x64x1024 where
  offsetDims := []
  collapsedSliceDims := [0]
  operandBatchingDims := [1, 2]
  startIndicesBatchingDims := [1, 2]
  startIndexMap := [0]
  indexVectorDim := 3
  sliceSizes := ![1, 1, 1]
  wf := wf

/-- The gather reads the state at its place, the same row and entry. -/
theorem gather_at {n : ℕ} (wf : GatherDims.WF ⟨3, ![n, 64, 1024]⟩ S8x64x1024x1 S8x64x1024 [] [0] [1, 2] [0] [1, 2] 3 ![1, 1, 1])
    (x : FVec Ideal ⟨3, ![n, 64, 1024]⟩ .f32) (q : IVec S8x64x1024x1 32) (j : Fin 8) (r : Fin 64) (c : Fin 1024) (p : Fin n)
    (hn : n ≤ 128) (e : q (ix4 j r c (0 : Fin 1)) = BitVec.ofNat 32 p.val) :
    Host.gather (dims n wf) x q (ix3 j r c) = x (ix3 p r c) := by
  unfold Host.gather
  congr 1
  funext a
  refine Fin.ext ?_
  show (dims n wf).start (ix3 j r c) q a + (dims n wf).batchCoord (ix3 j r c) a + (dims n wf).offCoord (ix3 j r c) a = _
  match a with
  | ⟨0, _⟩ =>
    have hsi : (dims n wf).siIdx (ix3 j r c) ⟨List.idxOf (0 : Fin 3) (dims n wf).startIndexMap,
        List.idxOf_lt_length_iff.2 (List.mem_singleton.mpr rfl)⟩ = ix4 j r c (0 : Fin 1) := by
      funext b; refine Fin.ext ?_
      match b with
      | ⟨0, _⟩ => rfl
      | ⟨1, _⟩ => rfl
      | ⟨2, _⟩ => rfl
      | ⟨3, _⟩ => rfl
    have h0 : (dims n wf).start (ix3 j r c) q (0 : Fin 3) = min (BitVec.ofNat 32 p.val).toInt.toNat (n - 1) := by
      unfold GatherDims.start
      rw [dif_pos (show (0 : Fin 3) ∈ (dims n wf).startIndexMap from List.mem_singleton.mpr rfl), hsi, e]
      rfl
    have h1 : (dims n wf).batchCoord (ix3 j r c) (0 : Fin 3) = 0 := rfl
    have h2 : (dims n wf).offCoord (ix3 j r c) (0 : Fin 3) = 0 := rfl
    have hp : (BitVec.ofNat 32 p.val).toInt = p.val := toInt_small ⟨p.val, by omega⟩
    show (dims n wf).start (ix3 j r c) q (0 : Fin 3) + (dims n wf).batchCoord (ix3 j r c) (0 : Fin 3)
      + (dims n wf).offCoord (ix3 j r c) (0 : Fin 3) = p.val
    rw [h0, h1, h2, hp, Int.toNat_natCast]
    omega
  | ⟨1, _⟩ =>
    show 0 + r.val + 0 = r.val
    omega
  | ⟨2, _⟩ =>
    show 0 + c.val + 0 = c.val
    omega

/-- The first depth. -/
theorem next1_at (x : FVec Ideal S64x1024 .f32) (j : Fin 8) (r : Fin 64) (c : Fin 1024) :
    next1 w b wf bf x (ix3 j r c) = next (par w b wf bf) 1 16 (fun _ k => x (ix2 r k)) j.val c := by
  have hf : (fun p : Fin 16 => fits1 wf bf (cands1 w b x) (ix2 r p)) = fits (par w b wf bf) 1 16 (fun _ k => x (ix2 r k)) := by
    funext p
    rw [fits1_at w b]
    simp only [cands1_at w b wf bf]
    rfl
  rw [next_of_lt _ _ _ _ (show j.val < 16 by omega)]
  have ht : top1 (fits1 wf bf (cands1 w b x)) (ix3 j r c)
      = BitVec.ofNat 32 (order (fits (par w b wf bf) 1 16 (fun _ k => x (ix2 r k))) ⟨j.val, by omega⟩).val := by
    unfold top1
    rw [along_at, topK_at _ _ (by decide), hf]
  generalize order (fits (par w b wf bf) 1 16 (fun _ k => x (ix2 r k))) ⟨j.val, by omega⟩ = p at ht
  have hst := start_at 16#32 _ j r c ⟨p.val, by omega⟩ ht
  unfold next1 keep1
  rw [inRange_at _ _ _ j r c (by rw [hst]; exact word_range16 p)]
  exact (gather_at _ _ _ j r c p (by decide) hst).trans (cands1_at w b wf bf x p r c)

/-- A later depth. -/
theorem next8_at (x : FVec Ideal S8x64x1024 .f32) (r : Fin 64) (S : ℕ → Row) (hS : ∀ (j : Fin 8) c, x (ix3 j r c) = S j.val c)
    (j : Fin 8) (c : Fin 1024) : next8 w b wf bf x (ix3 j r c) = next (par w b wf bf) 8 128 S j.val c := by
  have hc := cands8_at w b wf bf x r S hS
  have hf : (fun p : Fin 128 => fits8 wf bf (cands8 w b x) (ix2 r p)) = fits (par w b wf bf) 8 128 S := by
    funext p
    rw [fits8_at w b]
    simp only [hc]
    rfl
  rw [next_of_lt _ _ _ _ (show j.val < 128 by omega)]
  have ht : top8 (fits8 wf bf (cands8 w b x)) (ix3 j r c)
      = BitVec.ofNat 32 (order (fits (par w b wf bf) 8 128 S) ⟨j.val, by omega⟩).val := by
    unfold top8
    rw [along_at, topK_at _ _ (by decide), hf]
  generalize order (fits (par w b wf bf) 8 128 S) ⟨j.val, by omega⟩ = p at ht
  have hst := start_at 128#32 _ j r c p ht
  unfold next8 keep8
  rw [inRange_at _ _ _ j r c (by rw [hst]; exact word_range128 p)]
  exact (gather_at _ _ _ j r c p (by decide) hst).trans (hc p c)

/-- A state's fit. -/
theorem fit_at (x : FVec Ideal S8x64x1024 .f32) (j : Fin 8) (r : Fin 64) :
    fit wf bf x (ix3 j r (0 : Fin 1)) = fitness (par w b wf bf) fun c => x (ix3 j r c) := by
  pointwise [fit]
  rfl

/-- The exponential of a fit less the greatest. -/
theorem expo_at (f : FVec Ideal S8x64x1 .f32) (j : Fin 8) (r : Fin 64) :
    expo f (ix3 j r (0 : Fin 1)) = scaled (fun i => f (ix3 i r (0 : Fin 1))) j := by
  pointwise [expo]
  simp only [ofBits_bot, bot_le, max_eq_right]
  rfl

/-- The blend of eight states. -/
theorem blend_at (f : FVec Ideal S8x64x1 .f32) (x : FVec Ideal S8x64x1024 .f32) (r : Fin 64) (c : Fin 1024) :
    blend f x (ix2 r c) = Beam.blend (fun j => f (ix3 j r (0 : Fin 1))) (fun j c => x (ix3 j r c)) c := by
  pointwise [blend]
  simp only [expo_at]
  rfl

/-- The states after four depths. -/
def last (x : FVec Ideal S64x1024 .f32) : FVec Ideal S8x64x1024 .f32 :=
  next8 w b wf bf (next8 w b wf bf (next8 w b wf bf (next1 w b wf bf x)))

/-- After four depths: the beam. -/
theorem last_at (x : FVec Ideal S64x1024 .f32) (j : Fin 8) (r : Fin 64) (c : Fin 1024) :
    last w b wf bf x (ix3 j r c) = beam (par w b wf bf) (fun k => x (ix2 r k)) j.val c :=
  next8_at w b wf bf _ r _ (next8_at w b wf bf _ r _ (next8_at w b wf bf _ r _ fun j c => next1_at w b wf bf x j r c)) j c

/-- The reference's result, row by row. -/
theorem out_at (x : FVec Ideal S64x1024 .f32) (r : Fin 64) (c : Fin 1024) :
    blend (fit wf bf (last w b wf bf x)) (last w b wf bf x) (ix2 r c)
      = answer (par w b wf bf) (fun k => x (ix2 r k)) c := by
  rw [blend_at]
  simp only [fit_at w b, last_at]
  rfl

end Cert.Beam.Ref

end
-- ==== Proof.Finite.lean ====
module

public import proofs.«01_k».proof.Proof.Spec
public import proofs.«01_k».proof.Proof.Consts
public import proofs.«01_k».proof.Proof.Gen.Pre_finite_fitness
public import Idealize.ShloMosaic.Lib.ReduceAll
public import Idealize.ShloMosaic.Lib.Pointwise

/-! # The precondition: the fitness layer's weights and bias are real numbers -/

@[expose] public section

noncomputable section

namespace Cert.Beam

open Idealize.ShloMosaic Idealize.SL.Sem Cert.Pre_finite_fitness Cert.Pre_finite_fitness.Gen

/-- A value whose absolute value is below +∞ is a real number. -/
theorem real_of_abs (v : Ideal .f32)
    (h : FloatOps.cmpf .olt (FloatOps.hostAbsf v) (FloatOps.ofBits (F := Ideal) .f32 0x7F800000#32) = 1#1) : IsReal v := by
  have e : Ideal.cmp .olt (max (v : EReal) (-(v : EReal))) (Ideal.ofBits .f32 0x7F800000#32) = 1#1 := h
  rw [ofBits_top] at e
  have l : max (v : EReal) (-(v : EReal)) < ⊤ := by
    by_contra hn
    simp [Ideal.cmp, hn] at e
  obtain ⟨l1, l2⟩ := max_lt_iff.1 l
  have hb : (v : EReal) ≠ ⊥ := fun hv => by rw [hv] at l2; exact absurd l2 (by simp)
  exact ⟨(v : EReal).toReal, (EReal.coe_toReal l1.ne hb).symm⟩

/-- The precondition makes every weight and the bias of the fitness layer real. -/
theorem finite_of_pre (x : FVec Ideal S64x1024 .f32) (w : FVec Ideal S1024x1024 .f32) (b : FVec Ideal S1024 .f32)
    (wf : FVec Ideal S1024x1 .f32) (bf : FVec Ideal S1 .f32) (h : fn x w b wf bf = fun _ => 1#1) :
    (∀ i, IsReal (wf i)) ∧ ∀ i, IsReal (bf i) := by
  haveI : Subsingleton S_.Idx := ⟨fun p q => funext fun a => a.elim0⟩
  have e := congrFun h (fun a => a.elim0)
  dsimp only [fn] at e
  obtain ⟨e1, e2⟩ := IntOp.andi_eq_one.1 e
  exact ⟨fun i => real_of_abs _ (Host.reduce_andi_all _ _ _ _ _ e1 i), fun i => real_of_abs _ (Host.reduce_andi_all _ _ _ _ _ e2 i)⟩

end Cert.Beam

end
-- ==== Proof.Result.lean ====
module

public import proofs.«01_k».proof.Defs
public import proofs.«01_k».proof.Proof.Kernel
public import proofs.«01_k».proof.Proof.KRows
public import proofs.«01_k».proof.Proof.RRows
public import proofs.«01_k».proof.Proof.Finite

/-! # The kernel's result is the reference's -/

@[expose] public section

noncomputable section

namespace Cert.Beam

open Idealize.ShloMosaic Idealize.ShloMosaic.TcCoe Idealize.SL.Sem Idealize.ShloMosaic.StableHlo

section Kernel
open Cert.KernelIdeal Cert.KernelIdeal.Gen

variable (m : (ℓ : Loc nD τ sig) → Buf (Elt Ideal) ℓ) (c : Dev nD)

/-- The dense bias as the kernel finds it: one row. -/
theorem found_b : V m c main_v0 = shapeCast S1x1024 (m ((c : Thread nD τ).loc main_arg2)) shapeCasts_S1024_S1x1024 := by
  rfl

/-- The fitness bias as the kernel finds it: one word. -/
theorem found_bf : V m c main_v1 = shapeCast S1x1 (m ((c : Thread nD τ).loc main_arg4)) shapeCasts_S1_S1x1 := by
  rfl

/-- The arguments' parameters are those the kernel's blocks hold. -/
theorem par_found : par (V m c main_arg1) (V m c main_v0) (V m c main_arg3) (V m c main_v1 (ix2 (0 : Fin 1) (0 : Fin 1)))
    = Ref.par (m ((c : Thread nD τ).loc main_arg1)) (m ((c : Thread nD τ).loc main_arg2))
      (m ((c : Thread nD τ).loc main_arg3)) (m ((c : Thread nD τ).loc main_arg4)) := by
  have hb : ∀ (b : FVec Ideal S1024 .f32) (k : Fin 1024),
      shapeCast S1x1024 b shapeCasts_S1024_S1x1024 (ix2 (0 : Fin 1) k) = b (ix1 k) := fun b k => by pointwise
  have hbf : ∀ bf : FVec Ideal S1 .f32,
      shapeCast S1x1 bf shapeCasts_S1_S1x1 (ix2 (0 : Fin 1) (0 : Fin 1)) = bf (ix1 (0 : Fin 1)) := fun bf => by pointwise
  rw [found_b, found_bf, hbf, V_main_arg1, V_main_arg3]
  unfold par Ref.par
  simp only [hb]

end Kernel

/-- The reference's result as one function of the launch's arrays. -/
theorem reference_out (V0 : Valuation Cert.ReferenceIdeal.τ Cert.ReferenceIdeal.sig (Elt Ideal)) :
    Ref.blend (Cert.ReferenceIdeal.Value.res_main_v108 V0) (Cert.ReferenceIdeal.Value.res_main_v104 V0)
      = Ref.blend (Ref.fit (V0 (Proc.devRef .tc Cert.ReferenceIdeal.main_arg3)) (V0 (Proc.devRef .tc Cert.ReferenceIdeal.main_arg4))
          (Ref.last (V0 (Proc.devRef .tc Cert.ReferenceIdeal.main_arg1)) (V0 (Proc.devRef .tc Cert.ReferenceIdeal.main_arg2))
            (V0 (Proc.devRef .tc Cert.ReferenceIdeal.main_arg3)) (V0 (Proc.devRef .tc Cert.ReferenceIdeal.main_arg4))
            (V0 (Proc.devRef .tc Cert.ReferenceIdeal.main_arg0))))
        (Ref.last (V0 (Proc.devRef .tc Cert.ReferenceIdeal.main_arg1)) (V0 (Proc.devRef .tc Cert.ReferenceIdeal.main_arg2))
          (V0 (Proc.devRef .tc Cert.ReferenceIdeal.main_arg3)) (V0 (Proc.devRef .tc Cert.ReferenceIdeal.main_arg4))
          (V0 (Proc.devRef .tc Cert.ReferenceIdeal.main_arg0))) := by
  rw [Ref.v108_eq, Ref.v104_eq]
  rfl

/-- From equal arguments that meet the precondition, the kernel's result and the reference's are equal. -/
theorem value : Cert.algebraic_KernelIdeal_ReferenceIdeal_pre_finite_fitness := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  obtain ⟨f1, f2⟩ := finite_of_pre _ _ _ _ _ (hpre c)
  refine Eq.trans (b := Ref.blend (Cert.ReferenceIdeal.Value.res_main_v108 (launchContents m' c))
    (Cert.ReferenceIdeal.Value.res_main_v104 (launchContents m' c))) rfl ?_
  rw [reference_out]
  refine Eq.trans ?_ (final m c).symm
  funext i
  rw [eq_ix2 i]
  refine (Ref.out_at _ _ _ _ _ _ _).trans ?_
  have hp := par_found m c
  refine Eq.trans ?_ (kernelOut_at _ _ _ _ (by rw [hp]; exact ⟨fun k => f1 _, f2 _⟩) _ _ _).symm
  rw [hp, ← a1, ← a2, ← a3, ← a4, Cert.KernelIdeal.Gen.V_main_arg0, ← a0]

end Cert.Beam

end
-- ==== Proof.lean ====
/-
  The proof of `Cert.Claim`: the frames of the three programs, the named constants, and the kernel's result equal to
  the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_fitness
public import proofs.«01_k».proof.Proof.Parts
public import proofs.«01_k».proof.Proof.Result

@[expose] public section

noncomputable section

namespace Cert.Proof

theorem claim : Cert.Claim :=
  ⟨Cert.Kernel.Gen.facts, Cert.KernelIdeal.Gen.facts, Cert.ReferenceIdeal.Gen.facts, Cert.Pre_finite_fitness.Gen.facts,
    Beam.frame_kernel, Beam.frame_ideal, Beam.frame_ideal_pre, Beam.frame_reference, Beam.frame_reference_pre,
    Beam.constants, Beam.value⟩

end Cert.Proof

end
